-- ==== Defs.lean ====
def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Zproj (m : (ℓ : Loc Cert.Zproj.nD Cert.Zproj.τ Cert.Zproj.sig) → Buf (Elt Bits) ℓ) : Prop :=
  True

def Pre_ZprojIdeal (m : (ℓ : Loc Cert.ZprojIdeal.nD Cert.ZprojIdeal.τ Cert.ZprojIdeal.sig) → Buf (Elt Ideal) ℓ) : Prop :=
  True

def Pre_ZprojReferenceIdeal (m : (ℓ : Loc Cert.ZprojReferenceIdeal.nD Cert.ZprojReferenceIdeal.τ Cert.ZprojReferenceIdeal.sig) → Buf (Elt Ideal) ℓ) : Prop :=
  True

def Pre_Mq (m : (ℓ : Loc Cert.Mq.nD Cert.Mq.τ Cert.Mq.sig) → Buf (Elt Bits) ℓ) : Prop :=
  True

def Pre_MqIdeal (m : (ℓ : Loc Cert.MqIdeal.nD Cert.MqIdeal.τ Cert.MqIdeal.sig) → Buf (Elt Ideal) ℓ) : Prop :=
  True

def Pre_MqReferenceIdeal (m : (ℓ : Loc Cert.MqReferenceIdeal.nD Cert.MqReferenceIdeal.τ Cert.MqReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Zproj [hZproj : Cert.Zproj.Facts] : Prop :=
  ∀ (m : (ℓ : Loc Cert.Zproj.nD Cert.Zproj.τ Cert.Zproj.sig) → Buf (Elt Bits) ℓ) (g : Dev Cert.Zproj.nD → PrngReg), Pre_Zproj m →
    θ_run (Cert.Zproj.defs (F := Bits)) (onTc (τ := Cert.Zproj.τ) (Cert.Zproj.main (F := Bits))) ⟨m, fun _ => 0, g⟩ (fun r => (∀ c : Dev Cert.Zproj.nD,
      r.2.mem ((c.tc : Thread Cert.Zproj.nD Cert.Zproj.τ).loc Cert.Zproj.main_arg0) = m ((c.tc : Thread Cert.Zproj.nD Cert.Zproj.τ).loc Cert.Zproj.main_arg0)
      ∧ r.2.mem ((c.tc : Thread Cert.Zproj.nD Cert.Zproj.τ).loc Cert.Zproj.main_arg1) = m ((c.tc : Thread Cert.Zproj.nD Cert.Zproj.τ).loc Cert.Zproj.main_arg1))
      ∧ r.2.sem = fun _ => 0)

def quiescent_ZprojIdeal [hZprojIdeal : Cert.ZprojIdeal.Facts] : Prop :=
  ∀ (m : (ℓ : Loc Cert.ZprojIdeal.nD Cert.ZprojIdeal.τ Cert.ZprojIdeal.sig) → Buf (Elt Ideal) ℓ) (g : Dev Cert.ZprojIdeal.nD → PrngReg), Pre_ZprojIdeal m →
    θ_run (Cert.ZprojIdeal.defs (F := Ideal)) (onTc (τ := Cert.ZprojIdeal.τ) (Cert.ZprojIdeal.main (F := Ideal))) ⟨m, fun _ => 0, g⟩ (fun r => (∀ c : Dev Cert.ZprojIdeal.nD,
      r.2.mem ((c.tc : Thread Cert.ZprojIdeal.nD Cert.ZprojIdeal.τ).loc Cert.ZprojIdeal.main_arg0) = m ((c.tc : Thread Cert.ZprojIdeal.nD Cert.ZprojIdeal.τ).loc Cert.ZprojIdeal.main_arg0)
      ∧ r.2.mem ((c.tc : Thread Cert.ZprojIdeal.nD Cert.ZprojIdeal.τ).loc Cert.ZprojIdeal.main_arg1) = m ((c.tc : Thread Cert.ZprojIdeal.nD Cert.ZprojIdeal.τ).loc Cert.ZprojIdeal.main_arg1))
      ∧ r.2.sem = fun _ => 0)

def quiescent_ZprojReferenceIdeal [hZprojReferenceIdeal : Cert.ZprojReferenceIdeal.Facts] : Prop :=
  ∀ (m : (ℓ : Loc Cert.ZprojReferenceIdeal.nD Cert.ZprojReferenceIdeal.τ Cert.ZprojReferenceIdeal.sig) → Buf (Elt Ideal) ℓ) (g : Dev Cert.ZprojReferenceIdeal.nD → PrngReg), Pre_ZprojReferenceIdeal m →
    θ_run (Cert.ZprojReferenceIdeal.defs (F := Ideal)) (onTc (τ := Cert.ZprojReferenceIdeal.τ) (Cert.ZprojReferenceIdeal.main (F := Ideal))) ⟨m, fun _ => 0, g⟩ (fun r => (∀ c : Dev Cert.ZprojReferenceIdeal.nD,
      r.2.mem ((c.tc : Thread Cert.ZprojReferenceIdeal.nD Cert.ZprojReferenceIdeal.τ).loc Cert.ZprojReferenceIdeal.main_arg0) = m ((c.tc : Thread Cert.ZprojReferenceIdeal.nD Cert.ZprojReferenceIdeal.τ).loc Cert.ZprojReferenceIdeal.main_arg0)
      ∧ r.2.mem ((c.tc : Thread Cert.ZprojReferenceIdeal.nD Cert.ZprojReferenceIdeal.τ).loc Cert.ZprojReferenceIdeal.main_arg1) = m ((c.tc : Thread Cert.ZprojReferenceIdeal.nD Cert.ZprojReferenceIdeal.τ).loc Cert.ZprojReferenceIdeal.main_arg1))
      ∧ r.2.sem = fun _ => 0)

def quiescent_Mq [hMq : Cert.Mq.Facts] : Prop :=
  ∀ (m : (ℓ : Loc Cert.Mq.nD Cert.Mq.τ Cert.Mq.sig) → Buf (Elt Bits) ℓ) (g : Dev Cert.Mq.nD → PrngReg), Pre_Mq m →
    θ_run (Cert.Mq.defs (F := Bits)) (onTc (τ := Cert.Mq.τ) (Cert.Mq.main (F := Bits))) ⟨m, fun _ => 0, g⟩ (fun r => (∀ c : Dev Cert.Mq.nD,
      r.2.mem ((c.tc : Thread Cert.Mq.nD Cert.Mq.τ).loc Cert.Mq.main_arg0) = m ((c.tc : Thread Cert.Mq.nD Cert.Mq.τ).loc Cert.Mq.main_arg0)
      ∧ r.2.mem ((c.tc : Thread Cert.Mq.nD Cert.Mq.τ).loc Cert.Mq.main_arg1) = m ((c.tc : Thread Cert.Mq.nD Cert.Mq.τ).loc Cert.Mq.main_arg1))
      ∧ r.2.sem = fun _ => 0)

def quiescent_MqIdeal [hMqIdeal : Cert.MqIdeal.Facts] : Prop :=
  ∀ (m : (ℓ : Loc Cert.MqIdeal.nD Cert.MqIdeal.τ Cert.MqIdeal.sig) → Buf (Elt Ideal) ℓ) (g : Dev Cert.MqIdeal.nD → PrngReg), Pre_MqIdeal m →
    θ_run (Cert.MqIdeal.defs (F := Ideal)) (onTc (τ := Cert.MqIdeal.τ) (Cert.MqIdeal.main (F := Ideal))) ⟨m, fun _ => 0, g⟩ (fun r => (∀ c : Dev Cert.MqIdeal.nD,
      r.2.mem ((c.tc : Thread Cert.MqIdeal.nD Cert.MqIdeal.τ).loc Cert.MqIdeal.main_arg0) = m ((c.tc : Thread Cert.MqIdeal.nD Cert.MqIdeal.τ).loc Cert.MqIdeal.main_arg0)
      ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ r.2.sem = fun _ => 0)

def quiescent_MqReferenceIdeal [hMqReferenceIdeal : Cert.MqReferenceIdeal.Facts] : Prop :=
  ∀ (m : (ℓ : Loc Cert.MqReferenceIdeal.nD Cert.MqReferenceIdeal.τ Cert.MqReferenceIdeal.sig) → Buf (Elt Ideal) ℓ) (g : Dev Cert.MqReferenceIdeal.nD → PrngReg), Pre_MqReferenceIdeal m →
    θ_run (Cert.MqReferenceIdeal.defs (F := Ideal)) (onTc (τ := Cert.MqReferenceIdeal.τ) (Cert.MqReferenceIdeal.main (F := Ideal))) ⟨m, fun _ => 0, g⟩ (fun r => (∀ c : Dev Cert.MqReferenceIdeal.nD,
      r.2.mem ((c.tc : Thread Cert.MqReferenceIdeal.nD Cert.MqReferenceIdeal.τ).loc Cert.MqReferenceIdeal.main_arg0) = m ((c.tc : Thread Cert.MqReferenceIdeal.nD Cert.MqReferenceIdeal.τ).loc Cert.MqReferenceIdeal.main_arg0)
      ∧ r.2.mem ((c.tc : Thread Cert.MqReferenceIdeal.nD Cert.MqReferenceIdeal.τ).loc Cert.MqReferenceIdeal.main_arg1) = m ((c.tc : Thread Cert.MqReferenceIdeal.nD Cert.MqReferenceIdeal.τ).loc Cert.MqReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def preserves_MemAttn_MemAttnIdeal : Prop :=
  True

def algebraic_MemAttnIdeal_MemReferenceIdeal [hMemAttnIdeal : Cert.MemAttnIdeal.Facts] [hMemReferenceIdeal : Cert.MemReferenceIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemAttnIdeal m →
    (∀ c : Dev Cert.MemAttnIdeal.nD,
      m' ((c.tc : Thread Cert.MemReferenceIdeal.nD Cert.MemReferenceIdeal.τ).loc Cert.MemReferenceIdeal.main_arg0) = m ((c.tc : Thread Cert.MemAttnIdeal.nD Cert.MemAttnIdeal.τ).loc Cert.MemAttnIdeal.main_arg0)
      ∧ m' ((c.tc : Thread Cert.MemReferenceIdeal.nD Cert.MemReferenceIdeal.τ).loc Cert.MemReferenceIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v4)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v4) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v22) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v13) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v15) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v46)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v46) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v74) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v65) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Zproj_ZprojIdeal : Prop :=
  True

def algebraic_ZprojIdeal_ZprojReferenceIdeal [hZprojIdeal : Cert.ZprojIdeal.Facts] [hZprojReferenceIdeal : Cert.ZprojReferenceIdeal.Facts] : Prop :=
  ∀ (m : (ℓ : Loc Cert.ZprojIdeal.nD Cert.ZprojIdeal.τ Cert.ZprojIdeal.sig) → Buf (Elt Ideal) ℓ) (g : Dev Cert.ZprojIdeal.nD → PrngReg)
    (m' : (ℓ : Loc Cert.ZprojReferenceIdeal.nD Cert.ZprojReferenceIdeal.τ Cert.ZprojReferenceIdeal.sig) → Buf (Elt Ideal) ℓ) (g' : Dev Cert.ZprojReferenceIdeal.nD → PrngReg), Pre_ZprojIdeal m →
    (∀ c : Dev Cert.ZprojIdeal.nD,
      m' ((c.tc : Thread Cert.ZprojReferenceIdeal.nD Cert.ZprojReferenceIdeal.τ).loc Cert.ZprojReferenceIdeal.main_arg0) = m ((c.tc : Thread Cert.ZprojIdeal.nD Cert.ZprojIdeal.τ).loc Cert.ZprojIdeal.main_arg0)
      ∧ m' ((c.tc : Thread Cert.ZprojReferenceIdeal.nD Cert.ZprojReferenceIdeal.τ).loc Cert.ZprojReferenceIdeal.main_arg1) = m ((c.tc : Thread Cert.ZprojIdeal.nD Cert.ZprojIdeal.τ).loc Cert.ZprojIdeal.main_arg1)) →
    ∃ (v0 : (c : Dev Cert.ZprojIdeal.nD) → Buf (Elt Ideal) ((c.tc : Thread Cert.ZprojIdeal.nD Cert.ZprojIdeal.τ).loc Cert.ZprojIdeal.main_v3)),
      θ_run (Cert.ZprojIdeal.defs (F := Ideal)) (onTc (τ := Cert.ZprojIdeal.τ) (Cert.ZprojIdeal.main (F := Ideal))) ⟨m, fun _ => 0, g⟩ (fun r => ∀ c : Dev Cert.ZprojIdeal.nD,
          r.2.mem ((c.tc : Thread Cert.ZprojIdeal.nD Cert.ZprojIdeal.τ).loc Cert.ZprojIdeal.main_v3) = v0 c
          ∧ r.2.mem ((c.tc : Thread Cert.ZprojIdeal.nD Cert.ZprojIdeal.τ).loc Cert.ZprojIdeal.main_arg0) = m ((c.tc : Thread Cert.ZprojIdeal.nD Cert.ZprojIdeal.τ).loc Cert.ZprojIdeal.main_arg0)
          ∧ r.2.mem ((c.tc : Thread Cert.ZprojIdeal.nD Cert.ZprojIdeal.τ).loc Cert.ZprojIdeal.main_arg1) = m ((c.tc : Thread Cert.ZprojIdeal.nD Cert.ZprojIdeal.τ).loc Cert.ZprojIdeal.main_arg1))
      ∧ θ_run (Cert.ZprojReferenceIdeal.defs (F := Ideal)) (onTc (τ := Cert.ZprojReferenceIdeal.τ) (Cert.ZprojReferenceIdeal.main (F := Ideal))) ⟨m', fun _ => 0, g'⟩ (fun r => ∀ c : Dev Cert.ZprojReferenceIdeal.nD,
          r.2.mem ((c.tc : Thread Cert.ZprojReferenceIdeal.nD Cert.ZprojReferenceIdeal.τ).loc Cert.ZprojReferenceIdeal.main_v3) = v0 c
          ∧ r.2.mem ((c.tc : Thread Cert.ZprojReferenceIdeal.nD Cert.ZprojReferenceIdeal.τ).loc Cert.ZprojReferenceIdeal.main_arg0) = m' ((c.tc : Thread Cert.ZprojReferenceIdeal.nD Cert.ZprojReferenceIdeal.τ).loc Cert.ZprojReferenceIdeal.main_arg0)
          ∧ r.2.mem ((c.tc : Thread Cert.ZprojReferenceIdeal.nD Cert.ZprojReferenceIdeal.τ).loc Cert.ZprojReferenceIdeal.main_arg1) = m' ((c.tc : Thread Cert.ZprojReferenceIdeal.nD Cert.ZprojReferenceIdeal.τ).loc Cert.ZprojReferenceIdeal.main_arg1))

def preserves_Mq_MqIdeal : Prop :=
  True

def algebraic_MqIdeal_MqReferenceIdeal [hMqIdeal : Cert.MqIdeal.Facts] [hMqReferenceIdeal : Cert.MqReferenceIdeal.Facts] : Prop :=
  ∀ (m : (ℓ : Loc Cert.MqIdeal.nD Cert.MqIdeal.τ Cert.MqIdeal.sig) → Buf (Elt Ideal) ℓ) (g : Dev Cert.MqIdeal.nD → PrngReg)
    (m' : (ℓ : Loc Cert.MqReferenceIdeal.nD Cert.MqReferenceIdeal.τ Cert.MqReferenceIdeal.sig) → Buf (Elt Ideal) ℓ) (g' : Dev Cert.MqReferenceIdeal.nD → PrngReg), Pre_MqIdeal m →
    (∀ c : Dev Cert.MqIdeal.nD,
      m' ((c.tc : Thread Cert.MqReferenceIdeal.nD Cert.MqReferenceIdeal.τ).loc Cert.MqReferenceIdeal.main_arg0) = m ((c.tc : Thread Cert.MqIdeal.nD Cert.MqIdeal.τ).loc Cert.MqIdeal.main_arg0)
      ∧ m' ((c.tc : Thread Cert.MqReferenceIdeal.nD Cert.MqReferenceIdeal.τ).loc Cert.MqReferenceIdeal.main_arg1) = m ((c.tc : Thread Cert.MqIdeal.nD Cert.MqIdeal.τ).loc Cert.MqIdeal.main_arg1)) →
    ∃ (v0 : (c : Dev Cert.MqIdeal.nD) → Buf (Elt Ideal) ((c.tc : Thread Cert.MqIdeal.nD Cert.MqIdeal.τ).loc Cert.MqIdeal.main_v4)),
      θ_run (Cert.MqIdeal.defs (F := Ideal)) (onTc (τ := Cert.MqIdeal.τ) (Cert.MqIdeal.main (F := Ideal))) ⟨m, fun _ => 0, g⟩ (fun r => ∀ c : Dev Cert.MqIdeal.nD,
          r.2.mem ((c.tc : Thread Cert.MqIdeal.nD Cert.MqIdeal.τ).loc Cert.MqIdeal.main_v4) = v0 c
          ∧ r.2.mem ((c.tc : Thread Cert.MqIdeal.nD Cert.MqIdeal.τ).loc Cert.MqIdeal.main_arg0) = m ((c.tc : Thread Cert.MqIdeal.nD Cert.MqIdeal.τ).loc Cert.MqIdeal.main_arg0)
          ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ θ_run (Cert.MqReferenceIdeal.defs (F := Ideal)) (onTc (τ := Cert.MqReferenceIdeal.τ) (Cert.MqReferenceIdeal.main (F := Ideal))) ⟨m', fun _ => 0, g'⟩ (fun r => ∀ c : Dev Cert.MqReferenceIdeal.nD,
          r.2.mem ((c.tc : Thread Cert.MqReferenceIdeal.nD Cert.MqReferenceIdeal.τ).loc Cert.MqReferenceIdeal.main_v3) = v0 c
          ∧ r.2.mem ((c.tc : Thread Cert.MqReferenceIdeal.nD Cert.MqReferenceIdeal.τ).loc Cert.MqReferenceIdeal.main_arg0) = m' ((c.tc : Thread Cert.MqReferenceIdeal.nD Cert.MqReferenceIdeal.τ).loc Cert.MqReferenceIdeal.main_arg0)
          ∧ r.2.mem ((c.tc : Thread Cert.MqReferenceIdeal.nD Cert.MqReferenceIdeal.τ).loc Cert.MqReferenceIdeal.main_arg1) = m' ((c.tc : Thread Cert.MqReferenceIdeal.nD Cert.MqReferenceIdeal.τ).loc Cert.MqReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v2) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v5)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v5) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v20) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def Claim : Prop :=
  ∃ (hMemAttn : Cert.MemAttn.Facts) (hMemAttnIdeal : Cert.MemAttnIdeal.Facts) (hMemReferenceIdeal : Cert.MemReferenceIdeal.Facts) (hGates : Cert.Gates.Facts) (hGatesIdeal : Cert.GatesIdeal.Facts) (hGatesReferenceIdeal : Cert.GatesReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hRope : Cert.Rope.Facts) (hRopeIdeal : Cert.RopeIdeal.Facts) (hRopeReferenceIdeal : Cert.RopeReferenceIdeal.Facts) (hConv : Cert.Conv.Facts) (hConvIdeal : Cert.ConvIdeal.Facts) (hConvReferenceIdeal : Cert.ConvReferenceIdeal.Facts) (hZproj : Cert.Zproj.Facts) (hZprojIdeal : Cert.ZprojIdeal.Facts) (hZprojReferenceIdeal : Cert.ZprojReferenceIdeal.Facts) (hMq : Cert.Mq.Facts) (hMqIdeal : Cert.MqIdeal.Facts) (hMqReferenceIdeal : Cert.MqReferenceIdeal.Facts) (hKv : Cert.Kv.Facts) (hKvIdeal : Cert.KvIdeal.Facts) (hKvReferenceIdeal : Cert.KvReferenceIdeal.Facts) (hPost : Cert.Post.Facts) (hPostIdeal : Cert.PostIdeal.Facts) (hPostReferenceIdeal : Cert.PostReferenceIdeal.Facts),
    quiescent_MemAttn (hMemAttn := hMemAttn)
    ∧ quiescent_MemAttnIdeal (hMemAttnIdeal := hMemAttnIdeal)
    ∧ quiescent_MemReferenceIdeal (hMemReferenceIdeal := hMemReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Zproj (hZproj := hZproj)
    ∧ quiescent_ZprojIdeal (hZprojIdeal := hZprojIdeal)
    ∧ quiescent_ZprojReferenceIdeal (hZprojReferenceIdeal := hZprojReferenceIdeal)
    ∧ quiescent_Mq (hMq := hMq)
    ∧ quiescent_MqIdeal (hMqIdeal := hMqIdeal)
    ∧ quiescent_MqReferenceIdeal (hMqReferenceIdeal := hMqReferenceIdeal)
    ∧ quiescent_Kv (hKv := hKv)
    ∧ quiescent_KvIdeal (hKvIdeal := hKvIdeal)
    ∧ quiescent_KvReferenceIdeal (hKvReferenceIdeal := hKvReferenceIdeal)
    ∧ quiescent_Post (hPost := hPost)
    ∧ quiescent_PostIdeal (hPostIdeal := hPostIdeal)
    ∧ quiescent_PostReferenceIdeal (hPostReferenceIdeal := hPostReferenceIdeal)
    ∧ preserves_MemAttn_MemAttnIdeal
    ∧ algebraic_MemAttnIdeal_MemReferenceIdeal (hMemAttnIdeal := hMemAttnIdeal) (hMemReferenceIdeal := hMemReferenceIdeal)
    ∧ preserves_Gates_GatesIdeal
    ∧ algebraic_GatesIdeal_GatesReferenceIdeal (hGatesIdeal := hGatesIdeal) (hGatesReferenceIdeal := hGatesReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_Rope_RopeIdeal
    ∧ algebraic_RopeIdeal_RopeReferenceIdeal (hRopeIdeal := hRopeIdeal) (hRopeReferenceIdeal := hRopeReferenceIdeal)
    ∧ preserves_Conv_ConvIdeal
    ∧ algebraic_ConvIdeal_ConvReferenceIdeal (hConvIdeal := hConvIdeal) (hConvReferenceIdeal := hConvReferenceIdeal)
    ∧ preserves_Zproj_ZprojIdeal
    ∧ algebraic_ZprojIdeal_ZprojReferenceIdeal (hZprojIdeal := hZprojIdeal) (hZprojReferenceIdeal := hZprojReferenceIdeal)
    ∧ preserves_Mq_MqIdeal
    ∧ algebraic_MqIdeal_MqReferenceIdeal (hMqIdeal := hMqIdeal) (hMqReferenceIdeal := hMqReferenceIdeal)
    ∧ preserves_Kv_KvIdeal
    ∧ algebraic_KvIdeal_KvReferenceIdeal (hKvIdeal := hKvIdeal) (hKvReferenceIdeal := hKvReferenceIdeal)
    ∧ preserves_Post_PostIdeal
    ∧ algebraic_PostIdeal_PostReferenceIdeal (hPostIdeal := hPostIdeal) (hPostReferenceIdeal := hPostReferenceIdeal)
-- ==== MemAttn.lean ====
abbrev S4x8192x1024 : Shape := ⟨3, ![4, 8192, 1024]⟩
abbrev S4x256x2048 : Shape := ⟨3, ![4, 256, 2048]⟩
abbrev S32768x1024 : Shape := ⟨2, ![32768, 1024]⟩
abbrev S1024x2048 : Shape := ⟨2, ![1024, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .f32⟩
  | .hbm, ⟨2, _⟩ => ⟨S32768x1024, .f32⟩
  | .hbm, ⟨3, _⟩ => ⟨S32768x1024, .bf16⟩
  | .hbm, ⟨4, _⟩ => ⟨S1024x2048, .f32⟩
  | .hbm, ⟨5, _⟩ => ⟨S1024x2048, .bf16⟩
  | .hbm, ⟨6, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemReferenceIdeal.lean ====
abbrev S4x8192x1024 : Shape := ⟨3, ![4, 8192, 1024]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x8192x4x256 : Shape := ⟨4, ![4, 8192, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .f32⟩
  | .hbm, ⟨2, _⟩ => ⟨S4x256x1024, .f32⟩
  | .hbm, ⟨3, _⟩ => ⟨S4x256x1024, .f32⟩
  | .hbm, ⟨4, _⟩ => ⟨S4x256x4x256, .f32⟩
  | .hbm, ⟨5, _⟩ => ⟨S4x256x4x256, .f32⟩
  | .hbm, ⟨6, _⟩ => ⟨S4x8192x4x256, .f32⟩
  | .hbm, ⟨7, _⟩ => ⟨S4x4x8192x256, .f32⟩
  | .hbm, ⟨8, _⟩ => ⟨S_, .f32⟩
  | .hbm, ⟨9, _⟩ => ⟨S4x4x8192x256, .f32⟩
  | .hbm, ⟨10, _⟩ => ⟨S4x4x8192x256, .f32⟩
  | .hbm, ⟨11, _⟩ => ⟨S_, .f32⟩
  | .hbm, ⟨12, _⟩ => ⟨S4x4x8192, .f32⟩
  | .hbm, ⟨13, _⟩ => ⟨S_, .f32⟩
  | .hbm, ⟨14, _⟩ => ⟨S4x4x8192, .f32⟩
  | .hbm, ⟨15, _⟩ => ⟨S4x4x8192, .f32⟩
  | .hbm, ⟨16, _⟩ => ⟨S4x4x8192x1, .f32⟩
  | .hbm, ⟨17, _⟩ => ⟨S4x4x8192x256, .f32⟩
  | .hbm, ⟨18, _⟩ => ⟨S4x4x8192x256, .f32⟩
  | .hbm, ⟨19, _⟩ => ⟨S4x4x8192x256, .f32⟩
  | .hbm, ⟨20, _⟩ => ⟨S_, .f32⟩
  | .hbm, ⟨21, _⟩ => ⟨S4x4x8192, .f32⟩
  | .hbm, ⟨22, _⟩ => ⟨S4x4x8192x1, .f32⟩
  | .hbm, ⟨23, _⟩ => ⟨S4x4x8192x256, .f32⟩
  | .hbm, ⟨24, _⟩ => ⟨S4x4x8192x256, .f32⟩
  | .hbm, ⟨25, _⟩ => ⟨S4x4x256x8192, .f32⟩
  | .hbm, ⟨26, _⟩ => ⟨S4x8192x4x256, .f32⟩
  | .hbm, ⟨27, _⟩ => ⟨S32768x1024, .f32⟩
  | .hbm, ⟨28, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Gates.lean ====
abbrev S4x8192x2048 : Shape := ⟨3, ![4, 8192, 2048]⟩
abbrev S2048x17968 : Shape := ⟨2, ![2048, 17968]⟩
abbrev S3x2048 : Shape := ⟨2, ![3, 2048]⟩
abbrev S32768x2048 : Shape := ⟨2, ![32768, 2048]⟩
abbrev S2048x6144 : Shape := ⟨2, ![2048, 6144]⟩
abbrev S6144 : Shape := ⟨1, ![6144]⟩
abbrev S1x6144 : Shape := ⟨2, ![1, 6144]⟩
abbrev S32768x6144 : Shape := ⟨2, ![32768, 6144]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S3x2048, .f32⟩
  | .hbm, ⟨3, _⟩ => ⟨S2048x17968, .bf16⟩
  | .hbm, ⟨4, _⟩ => ⟨S32768x2048, .f32⟩
  | .hbm, ⟨5, _⟩ => ⟨S32768x2048, .bf16⟩
  | .hbm, ⟨6, _⟩ => ⟨S2048x6144, .bf16⟩
  | .hbm, ⟨7, _⟩ => ⟨S6144, .f32⟩
  | .hbm, ⟨8, _⟩ => ⟨S1x6144, .f32⟩
  | .hbm, ⟨9, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .bf16⟩
  | .local _ .vmem, ⟨7, _⟩ => ⟨S1024x1536, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S4x8192x2048 : Shape := ⟨3, ![4, 8192, 2048]⟩
abbrev S2048x17968 : Shape := ⟨2, ![2048, 17968]⟩
abbrev S3x2048 : Shape := ⟨2, ![3, 2048]⟩
abbrev S4x8192x17968 : Shape := ⟨3, ![4, 8192, 17968]⟩
abbrev S4x8192x6144 : Shape := ⟨3, ![4, 8192, 6144]⟩
abbrev S4x8192x3x2048 : Shape := ⟨4, ![4, 8192, 3, 2048]⟩
abbrev S1x1x3x2048 : Shape := ⟨4, ![1, 1, 3, 2048]⟩
abbrev S_ : Shape := ⟨0, ![]⟩
abbrev S32768x6144 : Shape := ⟨2, ![32768, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S3x2048, .f32⟩
  | .hbm, ⟨3, _⟩ => ⟨S4x8192x17968, .f32⟩
  | .hbm, ⟨4, _⟩ => ⟨S4x8192x6144, .f32⟩
  | .hbm, ⟨5, _⟩ => ⟨S4x8192x3x2048, .f32⟩
  | .hbm, ⟨6, _⟩ => ⟨S1x1x3x2048, .f32⟩
  | .hbm, ⟨7, _⟩ => ⟨S4x8192x3x2048, .f32⟩
  | .hbm, ⟨8, _⟩ => ⟨S4x8192x3x2048, .f32⟩
  | .hbm, ⟨9, _⟩ => ⟨S4x8192x3x2048, .f32⟩
  | .hbm, ⟨10, _⟩ => ⟨S4x8192x3x2048, .f32⟩
  | .hbm, ⟨11, _⟩ => ⟨S_, .f32⟩
  | .hbm, ⟨12, _⟩ => ⟨S4x8192x3x2048, .f32⟩
  | .hbm, ⟨13, _⟩ => ⟨S4x8192x3x2048, .f32⟩
  | .hbm, ⟨14, _⟩ => ⟨S_, .f32⟩
  | .hbm, ⟨15, _⟩ => ⟨S4x8192x3x2048, .f32⟩
  | .hbm, ⟨16, _⟩ => ⟨S4x8192x3x2048, .f32⟩
  | .hbm, ⟨17, _⟩ => ⟨S32768x6144, .f32⟩
  | .hbm, ⟨18, _⟩ => ⟨S32768x6144, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Merge.lean ====
abbrev S4x8192x512 : Shape := ⟨3, ![4, 8192, 512]⟩
abbrev S4x8192x1536 : Shape := ⟨3, ![4, 8192, 1536]⟩
abbrev S4x8192x1024 : Shape := ⟨3, ![4, 8192, 1024]⟩
abbrev S512x2048 : Shape := ⟨2, ![512, 2048]⟩
abbrev S1536x2048 : Shape := ⟨2, ![1536, 2048]⟩
abbrev S1024x2048 : Shape := ⟨2, ![1024, 2048]⟩
abbrev S4x8192x3x2048 : Shape := ⟨4, ![4, 8192, 3, 2048]⟩
abbrev S32768x512 : Shape := ⟨2, ![32768, 512]⟩
abbrev S32768x1536 : Shape := ⟨2, ![32768, 1536]⟩
abbrev S32768x1024 : Shape := ⟨2, ![32768, 1024]⟩
abbrev S32768x6144 : Shape := ⟨2, ![32768, 6144]⟩
abbrev S32768x2048 : Shape := ⟨2, ![32768, 2048]⟩
abbrev S1024x512 : Shape := ⟨2, ![1024, 512]⟩
abbrev S1024x1536 : Shape := ⟨2, ![1024, 1536]⟩
abbrev S1024x1024 : Shape := ⟨2, ![1024, 1024]⟩
abbrev S512x512 : Shape := ⟨2, ![512, 512]⟩
abbrev S1536x512 : Shape := ⟨2, ![1536, 512]⟩

abbrev nBuf : Space → Nat
  | .hbm => 19
  | .vmem => 20
  | .smem => 0
  | _ => 0

abbrev bufTy : (tb : Table) → Fin (tcTables nBuf tb) → BufTy
  | .hbm, ⟨0, _⟩ => ⟨S4x8192x512, .f32⟩
  | .hbm, ⟨1, _⟩ => ⟨S4x8192x1536, .f32⟩
  | .hbm, ⟨2, _⟩ => ⟨S4x8192x1024, .f32⟩
  | .hbm, ⟨3, _⟩ => ⟨S512x2048, .f32⟩
  | .hbm, ⟨4, _⟩ => ⟨S1536x2048, .f32⟩
  | .hbm, ⟨5, _⟩ => ⟨S1024x2048, .f32⟩
  | .hbm, ⟨6, _⟩ => ⟨S4x8192x3x2048, .f32⟩
  | .hbm, ⟨7, _⟩ => ⟨S32768x512, .f32⟩
  | .hbm, ⟨8, _⟩ => ⟨S32768x512, .bf16⟩
  | .hbm, ⟨9, _⟩ => ⟨S32768x1536, .f32⟩
  | .hbm, ⟨10, _⟩ => ⟨S32768x1536, .bf16⟩
  | .hbm, ⟨11, _⟩ => ⟨S32768x1024, .f32⟩
  | .hbm, ⟨12, _⟩ => ⟨S32768x1024, .bf16⟩
  | .hbm, ⟨13, _⟩ => ⟨S512x2048, .bf16⟩
  | .hbm, ⟨14, _⟩ => ⟨S1536x2048, .bf16⟩
  | .hbm, ⟨15, _⟩ => ⟨S1024x2048, .bf16⟩
  | .hbm, ⟨16, _⟩ => ⟨S32768x6144, .f32⟩
  | .hbm, ⟨17, _⟩ => ⟨S32768x6144, .bf16⟩
  | .hbm, ⟨18, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S512x512, .bf16⟩
  | .local _ .vmem, ⟨7, _⟩ => ⟨S512x512, .bf16⟩
  | .local _ .vmem, ⟨8, _⟩ => ⟨S1536x512, .bf16⟩
  | .local _ .vmem, ⟨9, _⟩ => ⟨S1536x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S4x8192x512 : Shape := ⟨3, ![4, 8192, 512]⟩
abbrev S4x8192x1536 : Shape := ⟨3, ![4, 8192, 1536]⟩
abbrev S4x8192x1024 : Shape := ⟨3, ![4, 8192, 1024]⟩
abbrev S512x2048 : Shape := ⟨2, ![512, 2048]⟩
abbrev S1536x2048 : Shape := ⟨2, ![1536, 2048]⟩
abbrev S1024x2048 : Shape := ⟨2, ![1024, 2048]⟩
abbrev S4x8192x3x2048 : Shape := ⟨4, ![4, 8192, 3, 2048]⟩
abbrev S4x8192x2048 : Shape := ⟨3, ![4, 8192, 2048]⟩
abbrev S4x8192x1x2048 : Shape := ⟨4, ![4, 8192, 1, 2048]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x1536, .f32⟩
  | .hbm, ⟨2, _⟩ => ⟨S4x8192x1024, .f32⟩
  | .hbm, ⟨3, _⟩ => ⟨S512x2048, .f32⟩
  | .hbm, ⟨4, _⟩ => ⟨S1536x2048, .f32⟩
  | .hbm, ⟨5, _⟩ => ⟨S1024x2048, .f32⟩
  | .hbm, ⟨6, _⟩ => ⟨S4x8192x3x2048, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S4x8192x1x2048, .f32⟩
  | .hbm, ⟨11, _⟩ => ⟨S4x8192x2048, .f32⟩
  | .hbm, ⟨12, _⟩ => ⟨S4x8192x2048, .f32⟩
  | .hbm, ⟨13, _⟩ => ⟨S4x8192x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x1x2048, .f32⟩
  | .hbm, ⟨18, _⟩ => ⟨S4x8192x2048, .f32⟩
  | .hbm, ⟨19, _⟩ => ⟨S4x8192x2048, .f32⟩
  | .hbm, ⟨20, _⟩ => ⟨S4x8192x2048, .f32⟩
  | .hbm, ⟨21, _⟩ => ⟨S32768x2048, .f32⟩
  | .hbm, ⟨22, _⟩ => ⟨S32768x2048, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Out.lean ====
abbrev S4x8192x2048 : Shape := ⟨3, ![4, 8192, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .hbm, ⟨7, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S4x8192x2048 : Shape := ⟨3, ![4, 8192, 2048]⟩
abbrev S2048x2048 : Shape := ⟨2, ![2048, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x2048, .f32⟩
  | .hbm, ⟨3, _⟩ => ⟨S4x8192x2048, .f32⟩
  | .hbm, ⟨4, _⟩ => ⟨S4x8192x2048, .f32⟩
  | .hbm, ⟨5, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S4x8192x2048 : Shape := ⟨3, ![4, 8192, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S1x1x2048, .f32⟩
  | .hbm, ⟨16, _⟩ => ⟨S4x8192x2048, .f32⟩
  | .hbm, ⟨17, _⟩ => ⟨S4x8192x2048, .f32⟩
  | .hbm, ⟨18, _⟩ => ⟨S32768x2048, .f32⟩
  | .hbm, ⟨19, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Rope.lean ====
abbrev S4x8192x2048 : Shape := ⟨3, ![4, 8192, 2048]⟩
abbrev S2048x17968 : Shape := ⟨2, ![2048, 17968]⟩
abbrev S32768x2048 : Shape := ⟨2, ![32768, 2048]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S1x8192x128 : Shape := ⟨3, ![1, 8192, 128]⟩
abbrev S3x8192x128 : Shape := ⟨3, ![3, 8192, 128]⟩
abbrev S32768x4608 : Shape := ⟨2, ![32768, 4608]⟩
abbrev S1024x2048 : Shape := ⟨2, ![1024, 2048]⟩
abbrev S2048x1536 : Shape := ⟨2, ![2048, 1536]⟩
abbrev S1x1024x128 : Shape := ⟨3, ![1, 1024, 128]⟩
abbrev S1024x1536 : Shape := ⟨2, ![1024, 1536]⟩
abbrev S1024x128 : Shape := ⟨2, ![1024, 128]⟩
abbrev S2048x256 : Shape := ⟨2, ![2048, 256]⟩
abbrev S1024x256 : Shape := ⟨2, ![1024, 256]⟩

abbrev nBuf : Space → Nat
  | .hbm => 60
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S2048x17968, .bf16⟩
  | .hbm, ⟨3, _⟩ => ⟨S32768x2048, .f32⟩
  | .hbm, ⟨4, _⟩ => ⟨S32768x2048, .bf16⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S8192, .f32⟩
  | .hbm, ⟨14, _⟩ => ⟨S8192x1, .f32⟩
  | .hbm, ⟨15, _⟩ => ⟨S1x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x96, .f32⟩
  | .hbm, ⟨23, _⟩ => ⟨S_, .f32⟩
  | .hbm, ⟨24, _⟩ => ⟨S8192x16, .f32⟩
  | .hbm, ⟨25, _⟩ => ⟨S_, .f32⟩
  | .hbm, ⟨26, _⟩ => ⟨S8192x96, .f32⟩
  | .hbm, ⟨27, _⟩ => ⟨S8192x96, .f32⟩
  | .hbm, ⟨28, _⟩ => ⟨S8192x128, .f32⟩
  | .hbm, ⟨29, _⟩ => ⟨S8192x16, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S_, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S1x8192x128, .f32⟩
  | .hbm, ⟨42, _⟩ => ⟨S1x8192x128, .f32⟩
  | .hbm, ⟨43, _⟩ => ⟨S1x8192x128, .f32⟩
  | .hbm, ⟨44, _⟩ => ⟨S3x8192x128, .f32⟩
  | .hbm, ⟨45, _⟩ => ⟨S_, .f32⟩
  | .hbm, ⟨46, _⟩ => ⟨S8192x128, .f32⟩
  | .hbm, ⟨47, _⟩ => ⟨S8192x128, .f32⟩
  | .hbm, ⟨48, _⟩ => ⟨S1x8192x128, .f32⟩
  | .hbm, ⟨49, _⟩ => ⟨S1x8192x128, .f32⟩
  | .hbm, ⟨50, _⟩ => ⟨S1x8192x128, .f32⟩
  | .hbm, ⟨51, _⟩ => ⟨S3x8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S1x8192x128, .f32⟩
  | .hbm, ⟨56, _⟩ => ⟨S1x8192x128, .f32⟩
  | .hbm, ⟨57, _⟩ => ⟨S1x8192x128, .f32⟩
  | .hbm, ⟨58, _⟩ => ⟨S3x8192x128, .f32⟩
  | .hbm, ⟨59, _⟩ => ⟨S32768x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1536, .f32⟩
  | .local _ .vmem, ⟨11, _⟩ => ⟨S1024x1536, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeReferenceIdeal.lean ====
abbrev S4x8192x2048 : Shape := ⟨3, ![4, 8192, 2048]⟩
abbrev S2048x17968 : Shape := ⟨2, ![2048, 17968]⟩
abbrev S4x8192x17968 : Shape := ⟨3, ![4, 8192, 17968]⟩
abbrev S4x8192x1536 : Shape := ⟨3, ![4, 8192, 1536]⟩
abbrev S8192 : Shape := ⟨1, ![8192]⟩
abbrev S4x8192x12x128 : Shape := ⟨4, ![4, 8192, 12, 128]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S4x8192x12x16 : Shape := ⟨4, ![4, 8192, 12, 16]⟩
abbrev S4x8192x12x32 : Shape := ⟨4, ![4, 8192, 12, 32]⟩
abbrev S4x8192x12x96 : Shape := ⟨4, ![4, 8192, 12, 96]⟩
abbrev S32768x1536 : Shape := ⟨2, ![32768, 1536]⟩
abbrev S32768x4608 : Shape := ⟨2, ![32768, 4608]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S4x8192x17968, .f32⟩
  | .hbm, ⟨3, _⟩ => ⟨S4x8192x1536, .f32⟩
  | .hbm, ⟨4, _⟩ => ⟨S4x8192x1536, .f32⟩
  | .hbm, ⟨5, _⟩ => ⟨S4x8192x1536, .f32⟩
  | .hbm, ⟨6, _⟩ => ⟨S8192, .i32⟩
  | .hbm, ⟨7, _⟩ => ⟨S4x8192x12x128, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8192, .f32⟩
  | .hbm, ⟨17, _⟩ => ⟨S8192x1, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S1x8192x1x16, .f32⟩
  | .hbm, ⟨24, _⟩ => ⟨S8192x16, .f32⟩
  | .hbm, ⟨25, _⟩ => ⟨S1x8192x1x16, .f32⟩
  | .hbm, ⟨26, _⟩ => ⟨S4x8192x12x16, .f32⟩
  | .hbm, ⟨27, _⟩ => ⟨S4x8192x12x16, .f32⟩
  | .hbm, ⟨28, _⟩ => ⟨S4x8192x12x16, .f32⟩
  | .hbm, ⟨29, _⟩ => ⟨S4x8192x12x16, .f32⟩
  | .hbm, ⟨30, _⟩ => ⟨S4x8192x12x16, .f32⟩
  | .hbm, ⟨31, _⟩ => ⟨S4x8192x12x16, .f32⟩
  | .hbm, ⟨32, _⟩ => ⟨S4x8192x12x16, .f32⟩
  | .hbm, ⟨33, _⟩ => ⟨S4x8192x12x16, .f32⟩
  | .hbm, ⟨34, _⟩ => ⟨S4x8192x12x16, .f32⟩
  | .hbm, ⟨35, _⟩ => ⟨S4x8192x12x16, .f32⟩
  | .hbm, ⟨36, _⟩ => ⟨S4x8192x12x16, .f32⟩
  | .hbm, ⟨37, _⟩ => ⟨S4x8192x12x16, .f32⟩
  | .hbm, ⟨38, _⟩ => ⟨S4x8192x12x32, .f32⟩
  | .hbm, ⟨39, _⟩ => ⟨S4x8192x12x96, .f32⟩
  | .hbm, ⟨40, _⟩ => ⟨S4x8192x12x128, .f32⟩
  | .hbm, ⟨41, _⟩ => ⟨S_, .f32⟩
  | .hbm, ⟨42, _⟩ => ⟨S4x8192x12x128, .f32⟩
  | .hbm, ⟨43, _⟩ => ⟨S4x8192x12x128, .f32⟩
  | .hbm, ⟨44, _⟩ => ⟨S4x8192x12x128, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S8192, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S1x8192x1x16, .f32⟩
  | .hbm, ⟨61, _⟩ => ⟨S8192x16, .f32⟩
  | .hbm, ⟨62, _⟩ => ⟨S1x8192x1x16, .f32⟩
  | .hbm, ⟨63, _⟩ => ⟨S4x8192x12x16, .f32⟩
  | .hbm, ⟨64, _⟩ => ⟨S4x8192x12x16, .f32⟩
  | .hbm, ⟨65, _⟩ => ⟨S4x8192x12x16, .f32⟩
  | .hbm, ⟨66, _⟩ => ⟨S4x8192x12x16, .f32⟩
  | .hbm, ⟨67, _⟩ => ⟨S4x8192x12x16, .f32⟩
  | .hbm, ⟨68, _⟩ => ⟨S4x8192x12x16, .f32⟩
  | .hbm, ⟨69, _⟩ => ⟨S4x8192x12x16, .f32⟩
  | .hbm, ⟨70, _⟩ => ⟨S4x8192x12x16, .f32⟩
  | .hbm, ⟨71, _⟩ => ⟨S4x8192x12x16, .f32⟩
  | .hbm, ⟨72, _⟩ => ⟨S4x8192x12x16, .f32⟩
  | .hbm, ⟨73, _⟩ => ⟨S4x8192x12x16, .f32⟩
  | .hbm, ⟨74, _⟩ => ⟨S4x8192x12x16, .f32⟩
  | .hbm, ⟨75, _⟩ => ⟨S4x8192x12x32, .f32⟩
  | .hbm, ⟨76, _⟩ => ⟨S4x8192x12x96, .f32⟩
  | .hbm, ⟨77, _⟩ => ⟨S4x8192x12x128, .f32⟩
  | .hbm, ⟨78, _⟩ => ⟨S32768x1536, .f32⟩
  | .hbm, ⟨79, _⟩ => ⟨S32768x1536, .f32⟩
  | .hbm, ⟨80, _⟩ => ⟨S32768x1536, .f32⟩
  | .hbm, ⟨81, _⟩ => ⟨S32768x4608, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩

abbrev nD : Nat := 1
abbrev τ : Topo := Topo.v7x

variable {F : FTy → Type} [FloatOps F]
-- ==== Conv.lean ====
abbrev S4x8192x2048 : Shape := ⟨3, ![4, 8192, 2048]⟩
abbrev S2048x17968 : Shape := ⟨2, ![2048, 17968]⟩
abbrev S5x4608 : Shape := ⟨2, ![5, 4608]⟩
abbrev S32768x2048 : Shape := ⟨2, ![32768, 2048]⟩
abbrev S36x32768x128 : Shape := ⟨3, ![36, 32768, 128]⟩
abbrev S1024x2048 : Shape := ⟨2, ![1024, 2048]⟩
abbrev S16x2048 : Shape := ⟨2, ![16, 2048]⟩
abbrev S2048x1536 : Shape := ⟨2, ![2048, 1536]⟩
abbrev S5x1536 : Shape := ⟨2, ![5, 1536]⟩
abbrev S12x1024x128 : Shape := ⟨3, ![12, 1024, 128]⟩
abbrev S1056x1536 : Shape := ⟨2, ![1056, 1536]⟩
abbrev S16x1536 : Shape := ⟨2, ![16, 1536]⟩
abbrev S1024x1536 : Shape := ⟨2, ![1024, 1536]⟩
abbrev S1056x128 : Shape := ⟨2, ![1056, 128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S5x4608, .f32⟩
  | .hbm, ⟨3, _⟩ => ⟨S2048x17968, .bf16⟩
  | .hbm, ⟨4, _⟩ => ⟨S32768x2048, .f32⟩
  | .hbm, ⟨5, _⟩ => ⟨S32768x2048, .bf16⟩
  | .hbm, ⟨6, _⟩ => ⟨S36x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x1536, .bf16⟩
  | .local _ .vmem, ⟨7, _⟩ => ⟨S2048x1536, .bf16⟩
  | .local _ .vmem, ⟨8, _⟩ => ⟨S5x1536, .f32⟩
  | .local _ .vmem, ⟨9, _⟩ => ⟨S5x1536, .f32⟩
  | .local _ .vmem, ⟨10, _⟩ => ⟨S12x1024x128, .bf16⟩
  | .local _ .vmem, ⟨11, _⟩ => ⟨S12x1024x128, .bf16⟩
  | .local _ .vmem, ⟨12, _⟩ => ⟨S1056x1536, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S5x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S12x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S4x8192x2048 : Shape := ⟨3, ![4, 8192, 2048]⟩
abbrev S2048x17968 : Shape := ⟨2, ![2048, 17968]⟩
abbrev S5x4608 : Shape := ⟨2, ![5, 4608]⟩
abbrev S4x8192x17968 : Shape := ⟨3, ![4, 8192, 17968]⟩
abbrev S4x8192x4608 : Shape := ⟨3, ![4, 8192, 4608]⟩
abbrev S_ : Shape := ⟨0, ![]⟩
abbrev S4x8196x4608 : Shape := ⟨3, ![4, 8196, 4608]⟩
abbrev S1x4608 : Shape := ⟨2, ![1, 4608]⟩
abbrev S4608 : Shape := ⟨1, ![4608]⟩
abbrev S1x1x4608 : Shape := ⟨3, ![1, 1, 4608]⟩
abbrev S4x8192x1536 : Shape := ⟨3, ![4, 8192, 1536]⟩
abbrev S4x8192x12x128 : Shape := ⟨4, ![4, 8192, 12, 128]⟩
abbrev S4x8192x12 : Shape := ⟨3, ![4, 8192, 12]⟩
abbrev S4x8192x12x1 : Shape := ⟨4, ![4, 8192, 12, 1]⟩
abbrev S4x8192x36x128 : Shape := ⟨4, ![4, 8192, 36, 128]⟩
abbrev S32768x36x128 : Shape := ⟨3, ![32768, 36, 128]⟩
abbrev S36x32768x128 : Shape := ⟨3, ![36, 32768, 128]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S5x4608, .f32⟩
  | .hbm, ⟨3, _⟩ => ⟨S4x8192x17968, .f32⟩
  | .hbm, ⟨4, _⟩ => ⟨S4x8192x4608, .f32⟩
  | .hbm, ⟨5, _⟩ => ⟨S_, .i32⟩
  | .hbm, ⟨6, _⟩ => ⟨S_, .f32⟩
  | .hbm, ⟨7, _⟩ => ⟨S4x8196x4608, .f32⟩
  | .hbm, ⟨8, _⟩ => ⟨S4x8192x4608, .f32⟩
  | .hbm, ⟨9, _⟩ => ⟨S1x4608, .f32⟩
  | .hbm, ⟨10, _⟩ => ⟨S4608, .f32⟩
  | .hbm, ⟨11, _⟩ => ⟨S1x1x4608, .f32⟩
  | .hbm, ⟨12, _⟩ => ⟨S4x8192x4608, .f32⟩
  | .hbm, ⟨13, _⟩ => ⟨S4x8192x4608, .f32⟩
  | .hbm, ⟨14, _⟩ => ⟨S4x8192x4608, .f32⟩
  | .hbm, ⟨15, _⟩ => ⟨S1x4608, .f32⟩
  | .hbm, ⟨16, _⟩ => ⟨S4608, .f32⟩
  | .hbm, ⟨17, _⟩ => ⟨S1x1x4608, .f32⟩
  | .hbm, ⟨18, _⟩ => ⟨S4x8192x4608, .f32⟩
  | .hbm, ⟨19, _⟩ => ⟨S4x8192x4608, .f32⟩
  | .hbm, ⟨20, _⟩ => ⟨S4x8192x4608, .f32⟩
  | .hbm, ⟨21, _⟩ => ⟨S4x8192x4608, .f32⟩
  | .hbm, ⟨22, _⟩ => ⟨S1x4608, .f32⟩
  | .hbm, ⟨23, _⟩ => ⟨S4608, .f32⟩
  | .hbm, ⟨24, _⟩ => ⟨S1x1x4608, .f32⟩
  | .hbm, ⟨25, _⟩ => ⟨S4x8192x4608, .f32⟩
  | .hbm, ⟨26, _⟩ => ⟨S4x8192x4608, .f32⟩
  | .hbm, ⟨27, _⟩ => ⟨S4x8192x4608, .f32⟩
  | .hbm, ⟨28, _⟩ => ⟨S4x8192x4608, .f32⟩
  | .hbm, ⟨29, _⟩ => ⟨S1x4608, .f32⟩
  | .hbm, ⟨30, _⟩ => ⟨S4608, .f32⟩
  | .hbm, ⟨31, _⟩ => ⟨S1x1x4608, .f32⟩
  | .hbm, ⟨32, _⟩ => ⟨S4x8192x4608, .f32⟩
  | .hbm, ⟨33, _⟩ => ⟨S4x8192x4608, .f32⟩
  | .hbm, ⟨34, _⟩ => ⟨S4x8192x4608, .f32⟩
  | .hbm, ⟨35, _⟩ => ⟨S4x8192x4608, .f32⟩
  | .hbm, ⟨36, _⟩ => ⟨S1x4608, .f32⟩
  | .hbm, ⟨37, _⟩ => ⟨S4608, .f32⟩
  | .hbm, ⟨38, _⟩ => ⟨S1x1x4608, .f32⟩
  | .hbm, ⟨39, _⟩ => ⟨S4x8192x4608, .f32⟩
  | .hbm, ⟨40, _⟩ => ⟨S4x8192x4608, .f32⟩
  | .hbm, ⟨41, _⟩ => ⟨S4x8192x4608, .f32⟩
  | .hbm, ⟨42, _⟩ => ⟨S4x8192x4608, .f32⟩
  | .hbm, ⟨43, _⟩ => ⟨S4x8192x4608, .f32⟩
  | .hbm, ⟨44, _⟩ => ⟨S_, .f32⟩
  | .hbm, ⟨45, _⟩ => ⟨S4x8192x4608, .f32⟩
  | .hbm, ⟨46, _⟩ => ⟨S4x8192x4608, .f32⟩
  | .hbm, ⟨47, _⟩ => ⟨S_, .f32⟩
  | .hbm, ⟨48, _⟩ => ⟨S4x8192x4608, .f32⟩
  | .hbm, ⟨49, _⟩ => ⟨S4x8192x4608, .f32⟩
  | .hbm, ⟨50, _⟩ => ⟨S4x8192x4608, .f32⟩
  | .hbm, ⟨51, _⟩ => ⟨S4x8192x1536, .f32⟩
  | .hbm, ⟨52, _⟩ => ⟨S4x8192x1536, .f32⟩
  | .hbm, ⟨53, _⟩ => ⟨S4x8192x1536, .f32⟩
  | .hbm, ⟨54, _⟩ => ⟨S4x8192x12x128, .f32⟩
  | .hbm, ⟨55, _⟩ => ⟨S4x8192x12x128, .f32⟩
  | .hbm, ⟨56, _⟩ => ⟨S_, .f32⟩
  | .hbm, ⟨57, _⟩ => ⟨S4x8192x12, .f32⟩
  | .hbm, ⟨58, _⟩ => ⟨S4x8192x12x1, .f32⟩
  | .hbm, ⟨59, _⟩ => ⟨S_, .f32⟩
  | .hbm, ⟨60, _⟩ => ⟨S4x8192x12x1, .f32⟩
  | .hbm, ⟨61, _⟩ => ⟨S4x8192x12x1, .f32⟩
  | .hbm, ⟨62, _⟩ => ⟨S4x8192x12x1, .f32⟩
  | .hbm, ⟨63, _⟩ => ⟨S4x8192x12x128, .f32⟩
  | .hbm, ⟨64, _⟩ => ⟨S4x8192x12x128, .f32⟩
  | .hbm, ⟨65, _⟩ => ⟨S_, .f32⟩
  | .hbm, ⟨66, _⟩ => ⟨S4x8192x12x128, .f32⟩
  | .hbm, ⟨67, _⟩ => ⟨S4x8192x12x128, .f32⟩
  | .hbm, ⟨68, _⟩ => ⟨S4x8192x12x128, .f32⟩
  | .hbm, ⟨69, _⟩ => ⟨S4x8192x12x128, .f32⟩
  | .hbm, ⟨70, _⟩ => ⟨S_, .f32⟩
  | .hbm, ⟨71, _⟩ => ⟨S4x8192x12, .f32⟩
  | .hbm, ⟨72, _⟩ => ⟨S4x8192x12x1, .f32⟩
  | .hbm, ⟨73, _⟩ => ⟨S_, .f32⟩
  | .hbm, ⟨74, _⟩ => ⟨S4x8192x12x1, .f32⟩
  | .hbm, ⟨75, _⟩ => ⟨S4x8192x12x1, .f32⟩
  | .hbm, ⟨76, _⟩ => ⟨S4x8192x12x1, .f32⟩
  | .hbm, ⟨77, _⟩ => ⟨S4x8192x12x128, .f32⟩
  | .hbm, ⟨78, _⟩ => ⟨S4x8192x12x128, .f32⟩
  | .hbm, ⟨79, _⟩ => ⟨S4x8192x12x128, .f32⟩
  | .hbm, ⟨80, _⟩ => ⟨S4x8192x36x128, .f32⟩
  | .hbm, ⟨81, _⟩ => ⟨S32768x36x128, .f32⟩
  | .hbm, ⟨82, _⟩ => ⟨S36x32768x128, .f32⟩
  | .hbm, ⟨83, _⟩ => ⟨S36x32768x128, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst : Ref sig .tc := ⟨.hbm, 56, rfl⟩
abbrev main_v43 : Ref sig .tc := ⟨.hbm, 57, rfl⟩
abbrev main_v44 : Ref sig .tc := ⟨.hbm, 58, rfl⟩
abbrev main_cst_0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_2 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Zproj.lean ====
abbrev S4x8192x2048 : Shape := ⟨3, ![4, 8192, 2048]⟩
abbrev S2048x17968 : Shape := ⟨2, ![2048, 17968]⟩
abbrev S32768x2048 : Shape := ⟨2, ![32768, 2048]⟩
abbrev S32768x1536 : Shape := ⟨2, ![32768, 1536]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S2048x17968, .bf16⟩
  | .hbm, ⟨3, _⟩ => ⟨S32768x2048, .f32⟩
  | .hbm, ⟨4, _⟩ => ⟨S32768x2048, .bf16⟩
  | .hbm, ⟨5, _⟩ => ⟨S32768x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZprojReferenceIdeal.lean ====
abbrev S4x8192x2048 : Shape := ⟨3, ![4, 8192, 2048]⟩
abbrev S2048x17968 : Shape := ⟨2, ![2048, 17968]⟩
abbrev S4x8192x17968 : Shape := ⟨3, ![4, 8192, 17968]⟩
abbrev S4x8192x1536 : Shape := ⟨3, ![4, 8192, 1536]⟩
abbrev S32768x1536 : Shape := ⟨2, ![32768, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S4x8192x17968, .f32⟩
  | .hbm, ⟨3, _⟩ => ⟨S4x8192x1536, .f32⟩
  | .hbm, ⟨4, _⟩ => ⟨S32768x1536, .f32⟩
  | .hbm, ⟨5, _⟩ => ⟨S32768x1536, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mq.lean ====
abbrev S4x8192x2048 : Shape := ⟨3, ![4, 8192, 2048]⟩
abbrev S2048x17968 : Shape := ⟨2, ![2048, 17968]⟩
abbrev S32768x2048 : Shape := ⟨2, ![32768, 2048]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S2048x17968, .bf16⟩
  | .hbm, ⟨3, _⟩ => ⟨S32768x2048, .f32⟩
  | .hbm, ⟨4, _⟩ => ⟨S32768x2048, .bf16⟩
  | .hbm, ⟨5, _⟩ => ⟨S2048x1024, .bf16⟩
  | .hbm, ⟨6, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MqReferenceIdeal.lean ====
abbrev S4x8192x2048 : Shape := ⟨3, ![4, 8192, 2048]⟩
abbrev S2048x17968 : Shape := ⟨2, ![2048, 17968]⟩
abbrev S4x8192x17968 : Shape := ⟨3, ![4, 8192, 17968]⟩
abbrev S4x8192x1024 : Shape := ⟨3, ![4, 8192, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x17968, .f32⟩
  | .hbm, ⟨2, _⟩ => ⟨S4x8192x17968, .f32⟩
  | .hbm, ⟨3, _⟩ => ⟨S4x8192x1024, .f32⟩
  | .hbm, ⟨4, _⟩ => ⟨S32768x1024, .f32⟩
  | .hbm, ⟨5, _⟩ => ⟨S32768x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S4x256x2048 : Shape := ⟨3, ![4, 256, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S2048x2048, .f32⟩
  | .hbm, ⟨2, _⟩ => ⟨S1024x2048, .f32⟩
  | .hbm, ⟨3, _⟩ => ⟨S1024x2048, .bf16⟩
  | .hbm, ⟨4, _⟩ => ⟨S2048x2048, .bf16⟩
  | .hbm, ⟨5, _⟩ => ⟨S1024x2048, .bf16⟩
  | .local _ .vmem, ⟨0, _⟩ => ⟨S1024x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvReferenceIdeal.lean ====
abbrev S4x256x2048 : Shape := ⟨3, ![4, 256, 2048]⟩
abbrev S2048x2048 : Shape := ⟨2, ![2048, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048x2048, .f32⟩
  | .hbm, ⟨2, _⟩ => ⟨S4x256x2048, .f32⟩
  | .hbm, ⟨3, _⟩ => ⟨S1024x2048, .f32⟩
  | .hbm, ⟨4, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Post.lean ====
abbrev S12x32768x128 : Shape := ⟨3, ![12, 32768, 128]⟩
abbrev S4x8192x1536 : Shape := ⟨3, ![4, 8192, 1536]⟩
abbrev S128 : Shape := ⟨1, ![128]⟩
abbrev S32768x1536 : Shape := ⟨2, ![32768, 1536]⟩
abbrev S1x128 : Shape := ⟨2, ![1, 128]⟩
abbrev S12x512x128 : Shape := ⟨3, ![12, 512, 128]⟩
abbrev S512x1536 : Shape := ⟨2, ![512, 1536]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S12x32768x128, .f32⟩
  | .hbm, ⟨1, _⟩ => ⟨S12x32768x128, .f32⟩
  | .hbm, ⟨2, _⟩ => ⟨S4x8192x1536, .f32⟩
  | .hbm, ⟨3, _⟩ => ⟨S128, .f32⟩
  | .hbm, ⟨4, _⟩ => ⟨S12x32768x128, .bf16⟩
  | .hbm, ⟨5, _⟩ => ⟨S12x32768x128, .bf16⟩
  | .hbm, ⟨6, _⟩ => ⟨S32768x1536, .f32⟩
  | .hbm, ⟨7, _⟩ => ⟨S32768x1536, .bf16⟩
  | .hbm, ⟨8, _⟩ => ⟨S1x128, .f32⟩
  | .hbm, ⟨9, _⟩ => ⟨S32768x1536, .bf16⟩
  | .local _ .vmem, ⟨0, _⟩ => ⟨S12x512x128, .bf16⟩
  | .local _ .vmem, ⟨1, _⟩ => ⟨S12x512x128, .bf16⟩
  | .local _ .vmem, ⟨2, _⟩ => ⟨S12x512x128, .bf16⟩
  | .local _ .vmem, ⟨3, _⟩ => ⟨S12x512x128, .bf16⟩
  | .local _ .vmem, ⟨4, _⟩ => ⟨S512x1536, .bf16⟩
  | .local _ .vmem, ⟨5, _⟩ => ⟨S512x1536, .bf16⟩
  | .local _ .vmem, ⟨6, _⟩ => ⟨S1x128, .f32⟩
  | .local _ .vmem, ⟨7, _⟩ => ⟨S512x1536, .bf16⟩
  | .local _ .vmem, ⟨8, _⟩ => ⟨S512x1536, .bf16⟩
  | _, _ => ⟨S12x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostReferenceIdeal.lean ====
abbrev S12x32768x128 : Shape := ⟨3, ![12, 32768, 128]⟩
abbrev S4x8192x1536 : Shape := ⟨3, ![4, 8192, 1536]⟩
abbrev S128 : Shape := ⟨1, ![128]⟩
abbrev S32768x12x128 : Shape := ⟨3, ![32768, 12, 128]⟩
abbrev S4x8192x12x128 : Shape := ⟨4, ![4, 8192, 12, 128]⟩
abbrev S_ : Shape := ⟨0, ![]⟩
abbrev S4x8192x12 : Shape := ⟨3, ![4, 8192, 12]⟩
abbrev S4x8192x12x1 : Shape := ⟨4, ![4, 8192, 12, 1]⟩
abbrev S1x1x1x128 : Shape := ⟨4, ![1, 1, 1, 128]⟩
abbrev S32768x1536 : Shape := ⟨2, ![32768, 1536]⟩

abbrev nBuf : Space → Nat
  | .hbm => 36
  | .vmem => 0
  | .smem => 0
  | _ => 0

abbrev bufTy : (tb : Table) → Fin (tcTables nBuf tb) → BufTy
  | .hbm, ⟨0, _⟩ => ⟨S12x32768x128, .f32⟩
  | .hbm, ⟨1, _⟩ => ⟨S12x32768x128, .f32⟩
  | .hbm, ⟨2, _⟩ => ⟨S4x8192x1536, .f32⟩
  | .hbm, ⟨3, _⟩ => ⟨S128, .f32⟩
  | .hbm, ⟨4, _⟩ => ⟨S12x32768x128, .f32⟩
  | .hbm, ⟨5, _⟩ => ⟨S32768x12x128, .f32⟩
  | .hbm, ⟨6, _⟩ => ⟨S4x8192x12x128, .f32⟩
  | .hbm, ⟨7, _⟩ => ⟨S4x8192x12x128, .f32⟩
  | .hbm, ⟨8, _⟩ => ⟨S_, .f32⟩
  | .hbm, ⟨9, _⟩ => ⟨S4x8192x12, .f32⟩
  | .hbm, ⟨10, _⟩ => ⟨S4x8192x12x1, .f32⟩
  | .hbm, ⟨11, _⟩ => ⟨S_, .f32⟩
  | .hbm, ⟨12, _⟩ => ⟨S4x8192x12x1, .f32⟩
  | .hbm, ⟨13, _⟩ => ⟨S4x8192x12x1, .f32⟩
  | .hbm, ⟨14, _⟩ => ⟨S_, .f32⟩
  | .hbm, ⟨15, _⟩ => ⟨S4x8192x12x1, .f32⟩
  | .hbm, ⟨16, _⟩ => ⟨S4x8192x12x1, .f32⟩
  | .hbm, ⟨17, _⟩ => ⟨S4x8192x12x1, .f32⟩
  | .hbm, ⟨18, _⟩ => ⟨S4x8192x12x128, .f32⟩
  | .hbm, ⟨19, _⟩ => ⟨S4x8192x12x128, .f32⟩
  | .hbm, ⟨20, _⟩ => ⟨S1x1x1x128, .f32⟩
  | .hbm, ⟨21, _⟩ => ⟨S4x8192x12x128, .f32⟩
  | .hbm, ⟨22, _⟩ => ⟨S4x8192x12x128, .f32⟩
  | .hbm, ⟨23, _⟩ => ⟨S4x8192x12x128, .f32⟩
  | .hbm, ⟨24, _⟩ => ⟨S4x8192x12x128, .f32⟩
  | .hbm, ⟨25, _⟩ => ⟨S4x8192x12x128, .f32⟩
  | .hbm, ⟨26, _⟩ => ⟨S_, .f32⟩
  | .hbm, ⟨27, _⟩ => ⟨S4x8192x12x128, .f32⟩
  | .hbm, ⟨28, _⟩ => ⟨S4x8192x12x128, .f32⟩
  | .hbm, ⟨29, _⟩ => ⟨S_, .f32⟩
  | .hbm, ⟨30, _⟩ => ⟨S4x8192x12x128, .f32⟩
  | .hbm, ⟨31, _⟩ => ⟨S4x8192x12x128, .f32⟩
  | .hbm, ⟨32, _⟩ => ⟨S4x8192x12x128, .f32⟩
  | .hbm, ⟨33, _⟩ => ⟨S4x8192x12x128, .f32⟩
  | .hbm, ⟨34, _⟩ => ⟨S32768x1536, .f32⟩
  | .hbm, ⟨35, _⟩ => ⟨S32768x1536, .bf16⟩
  | _, _ => ⟨S12x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.MemAttnValue.lean ====
module

public import proofs.«01_k».proof.Defs
public import proofs.«01_k».proof.Proof.Gen.MemAttn.Frame
public import proofs.«01_k».proof.Proof.Gen.MemAttnIdeal.Value
public import proofs.«01_k».proof.Proof.Gen.MemReferenceIdeal.Run
public import proofs.«01_k».proof.Proof.Gen.MemReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemAttnProof

open Cert.MemAttnIdeal Cert.MemAttnIdeal.Gen

variable (m : (ℓ : Loc nD τ sig) → Buf (Elt Ideal) ℓ)

/-- Softmax attention of one query with 256 keys: `s` the scores, `v` one coordinate of the values. -/
def att (s v : Fin 256 → EReal) : EReal :=
  ∑ t : Fin 256, Ideal.div (Ideal.exp (s t - Finset.univ.fold max (Ideal.ofBits .f32 0xFF800000#32) s))
    (∑ u : Fin 256, Ideal.exp (s u - Finset.univ.fold max (Ideal.ofBits .f32 0xFF800000#32) s)) * v t

/-- The reference's result as a function of its two arguments. -/
abbrev REF (q : FVec Ideal S4x8192x1024 .f32) (kv : FVec Ideal S4x256x2048 .f32) : FVec Ideal S32768x1024 .bf16 :=
  Cert.MemReferenceIdeal.Read.val_main_v22 (F := Ideal) q kv

/-- The block every window holds at grid point `t`. -/
theorem idx : ∀ t : Fin cfg0.N, win0_0.index t = ![t.val, 0] ∧ win0_1.index t = ![t.val / 16, 0] ∧ win0_2.index t = ![t.val / 16, 1]
    ∧ win0_3.index t = ![t.val, 0] :=
  (by decide +kernel : ∀ t : Fin grid0.N, _)

/-- What the body stores for one head, read at an index: the softmax attention of the head's queries, keys and values. -/
theorem pay2_at (q : FVec Ideal S512x256 .bf16) (k v : FVec Ideal S256x256 .bf16) (i : Fin 512) (d : Fin 256) :
    k0_pay2 (F := Ideal) q k v (ix2 i d)
      = att (fun t => (∑ e : Fin 256, q (ix2 i e) * k (ix2 t e)) * Ideal.ofBits .f32 0x3D800000#32) (fun t => v (ix2 t d)) := by
  pointwise [k0_pay2, att, Scalar.ofBits]

/-- What the body stores for one head, read at an index: the softmax attention of the head's queries, keys and values. -/
theorem pay5_at (q : FVec Ideal S512x256 .bf16) (k v : FVec Ideal S256x256 .bf16) (i : Fin 512) (d : Fin 256) :
    k0_pay5 (F := Ideal) (k0_pay3 (F := Ideal) q k) (k0_pay4 (F := Ideal) q k) v (ix2 i d)
      = att (fun t => (∑ e : Fin 256, q (ix2 i e) * k (ix2 t e)) * Ideal.ofBits .f32 0x3D800000#32) (fun t => v (ix2 t d)) := by
  pointwise [k0_pay5, k0_pay3, k0_pay4, att, Scalar.ofBits]

/-- What the body stores for one head, read at an index: the softmax attention of the head's queries, keys and values. -/
theorem pay6_at (q : FVec Ideal S512x256 .bf16) (k v : FVec Ideal S256x256 .bf16) (i : Fin 512) (d : Fin 256) :
    k0_pay6 (F := Ideal) q k v (ix2 i d)
      = att (fun t => (∑ e : Fin 256, q (ix2 i e) * k (ix2 t e)) * Ideal.ofBits .f32 0x3D800000#32) (fun t => v (ix2 t d)) := by
  pointwise [k0_pay6, att, Scalar.ofBits]

/-- What the body stores for one head, read at an index: the softmax attention of the head's queries, keys and values. -/
theorem pay1_at (q : FVec Ideal S512x256 .bf16) (k v : FVec Ideal S256x256 .bf16) (i : Fin 512) (d : Fin 256) :
    k0_pay1 (F := Ideal) (k0_pay7 (F := Ideal) q k) (Scalar.ofBits (F := Ideal) .f32 0x3D800000#32) v (ix2 i d)
      = att (fun t => (∑ e : Fin 256, q (ix2 i e) * k (ix2 t e)) * Ideal.ofBits .f32 0x3D800000#32) (fun t => v (ix2 t d)) := by
  pointwise [k0_pay1, k0_pay7, att, Scalar.ofBits]

/-- The reference's scaled scores read at an index. -/
theorem score_at (q : FVec Ideal S4x8192x1024 .f32) (kv : FVec Ideal S4x256x2048 .f32) (b h : Fin 4) (r : Fin 8192) (t : Fin 256) :
    Cert.MemReferenceIdeal.Read.val_main_v7 (F := Ideal) q kv (ix4 b h r t)
      = (∑ e : Fin 256, q (ix3 b r ⟨h * 256 + e, by omega⟩) * kv (ix3 b t ⟨h * 256 + e, by omega⟩)) * Ideal.ofBits .f32 0x3D800000#32 := by
  pointwise [Cert.MemReferenceIdeal.Read.val_main_v7, Cert.MemReferenceIdeal.Read.val_main_v6, Cert.MemReferenceIdeal.Read.val_main_v5, Cert.MemReferenceIdeal.Read.val_main_v4, Cert.MemReferenceIdeal.Read.val_main_v2, Cert.MemReferenceIdeal.Read.val_main_v0, Cert.MemReferenceIdeal.Read.val_main_cst]

/-- A maximum along the last of four axes, read at an index. -/
theorem max_row {n0 n1 n2 n3 : ℕ} (h : (⟨4, ![n0, n1, n2, n3]⟩ : Shape).ReducesTo [3] ⟨3, ![n0, n1, n2]⟩)
    {u : Shape} (hu : 0 < u.numel) (v : (⟨4, ![n0, n1, n2, n3]⟩ : Shape).Idx → EReal) (c : u.Idx → EReal)
    (b : Fin n0) (k : Fin n1) (r : Fin n2) :
    Host.reduce (max : EReal → EReal → EReal) v c h hu (ix3 b k r)
      = Finset.univ.fold max (c (Shape.Idx.first hu)) (fun t : Fin n3 => v (ix4 b k r t)) :=
  (Host.reduce_eq_fold _ _ _ _ _ _).trans (h.fold_fiber_r4_a3 _ _ _ _)

/-- The reference's largest score of a row. -/
theorem max_at (q : FVec Ideal S4x8192x1024 .f32) (kv : FVec Ideal S4x256x2048 .f32) (b h : Fin 4) (r : Fin 8192) :
    Cert.MemReferenceIdeal.Read.val_main_v10 (F := Ideal) q kv (ix3 b h r)
      = Finset.univ.fold max (Ideal.ofBits .f32 0xFF800000#32) (fun t : Fin 256 => Cert.MemReferenceIdeal.Read.val_main_v7 (F := Ideal) q kv (ix4 b h r t)) := by
  have e : Cert.MemReferenceIdeal.Read.val_main_v8 (F := Ideal) q kv (ix3 b h r)
      = Finset.univ.fold max (Ideal.ofBits .f32 0xFF800000#32) (fun t : Fin 256 => Cert.MemReferenceIdeal.Read.val_main_v7 (F := Ideal) q kv (ix4 b h r t)) := by
    unfold Cert.MemReferenceIdeal.Read.val_main_v8
    generalize Cert.MemReferenceIdeal.Read.val_main_v7 (F := Ideal) q kv = y
    exact max_row _ _ y _ b h r
  rw [Cert.MemReferenceIdeal.Read.val_main_v10_apply, e, Cert.MemReferenceIdeal.Read.val_main_v9_apply]
  exact max_eq_right ((Finset.le_fold_max _).2 (Or.inl le_rfl))

/-- The reference's exponentials. -/
theorem exp_at (q : FVec Ideal S4x8192x1024 .f32) (kv : FVec Ideal S4x256x2048 .f32) (b h : Fin 4) (r : Fin 8192) (t : Fin 256) :
    Cert.MemReferenceIdeal.Read.val_main_v14 (F := Ideal) q kv (ix4 b h r t)
      = Ideal.exp (Cert.MemReferenceIdeal.Read.val_main_v7 (F := Ideal) q kv (ix4 b h r t) - Cert.MemReferenceIdeal.Read.val_main_v10 (F := Ideal) q kv (ix3 b h r)) := by
  pointwise [Cert.MemReferenceIdeal.Read.val_main_v14, Cert.MemReferenceIdeal.Read.val_main_v13, Cert.MemReferenceIdeal.Read.val_main_v12, Cert.MemReferenceIdeal.Read.val_main_v11]

/-- The reference's sum of a row of exponentials. -/
theorem sum_at (q : FVec Ideal S4x8192x1024 .f32) (kv : FVec Ideal S4x256x2048 .f32) (b h : Fin 4) (r : Fin 8192) :
    Cert.MemReferenceIdeal.Read.val_main_v15 (F := Ideal) q kv (ix3 b h r)
      = ∑ t : Fin 256, Cert.MemReferenceIdeal.Read.val_main_v14 (F := Ideal) q kv (ix4 b h r t) := by
  pointwise [Cert.MemReferenceIdeal.Read.val_main_v15, Cert.MemReferenceIdeal.Read.val_main_cst_2]

/-- The reference's result as a sum over the keys. -/
theorem out_at (q : FVec Ideal S4x8192x1024 .f32) (kv : FVec Ideal S4x256x2048 .f32) (i : Fin 32768) (j : Fin 1024) :
    REF q kv (ix2 i j) = ∑ t : Fin 256, Cert.MemReferenceIdeal.Read.val_main_v18 (F := Ideal) q kv (ix4 ⟨i / 8192, by omega⟩ ⟨j / 256, by omega⟩ ⟨i % 8192, by omega⟩ t)
      * kv (ix3 ⟨i / 8192, by omega⟩ t ⟨1024 + j, by omega⟩) := by
  pointwise [REF, Cert.MemReferenceIdeal.Read.val_main_v22, Cert.MemReferenceIdeal.Read.val_main_v21, Cert.MemReferenceIdeal.Read.val_main_v20, Cert.MemReferenceIdeal.Read.val_main_v19, Cert.MemReferenceIdeal.Read.val_main_v3, Cert.MemReferenceIdeal.Read.val_main_v1]
  exact Finset.sum_congr rfl fun t _ => mul_comm _ _

/-- The quotient. -/
theorem quot_at (q : FVec Ideal S4x8192x1024 .f32) (kv : FVec Ideal S4x256x2048 .f32) (b h : Fin 4) (r : Fin 8192) (t : Fin 256) :
    Cert.MemReferenceIdeal.Read.val_main_v18 (F := Ideal) q kv (ix4 b h r t)
      = Ideal.div (Cert.MemReferenceIdeal.Read.val_main_v14 (F := Ideal) q kv (ix4 b h r t)) (Cert.MemReferenceIdeal.Read.val_main_v15 (F := Ideal) q kv (ix3 b h r)) := by
  pointwise [Cert.MemReferenceIdeal.Read.val_main_v18, Cert.MemReferenceIdeal.Read.val_main_v17, Cert.MemReferenceIdeal.Read.val_main_v16]

/-- The reference's result read at an index. -/
theorem ref_at (q : FVec Ideal S4x8192x1024 .f32) (kv : FVec Ideal S4x256x2048 .f32) (i : Fin 32768) (j : Fin 1024) :
    REF q kv (ix2 i j) = att
      (fun t => (∑ e : Fin 256, q (ix3 ⟨i / 8192, by omega⟩ ⟨i % 8192, by omega⟩ ⟨j / 256 * 256 + e, by omega⟩)
        * kv (ix3 ⟨i / 8192, by omega⟩ t ⟨j / 256 * 256 + e, by omega⟩)) * Ideal.ofBits .f32 0x3D800000#32)
      (fun t => kv (ix3 ⟨i / 8192, by omega⟩ t ⟨1024 + j, by omega⟩)) := by
  rw [out_at]
  simp only [quot_at, sum_at, exp_at, max_at, score_at]
  rfl

/-- The result array after the run is the reference's result. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun n _ y => ?_
  blk_simp
  rw [after0_3]; frame_out
  obtain_idx I : S32768x1024 := [n.val * 512 + (y 0 : ℕ), (y 1 : ℕ)] with hI
  refine Eq.trans (b := REF (m ((c : Thread nD τ).loc main_arg0)) (m ((c : Thread nD τ).loc main_arg1)) I) ?_ (congrArg (REF _ _) ?_)
  · refine Eq.trans ?_ ((congrArg (REF (m ((c : Thread nD τ).loc main_arg0)) (m ((c : Thread nD τ).loc main_arg1))) (ValueIdx.eq_ix2 I)).trans (ref_at _ _ (I 0) (I 1))).symm
    canon_tiles x h
    · refine (congrArg _ (ValueIdx.eq_ix2 x)).trans ((pay1_at _ _ _ (x 0) (x 1)).trans ?_)
      pointwise [r0_6, r0_7]
      blk_point [iblk, idx n]
    · refine (congrArg _ (ValueIdx.eq_ix2 x)).trans ((pay6_at _ _ _ (x 0) (x 1)).trans ?_)
      pointwise [r0_4, r0_5]
      blk_point [iblk, idx n]
    · refine (congrArg _ (ValueIdx.eq_ix2 x)).trans ((pay5_at _ _ _ (x 0) (x 1)).trans ?_)
      pointwise [r0_2, r0_3]
      blk_point [iblk, idx n]
    · refine (congrArg _ (ValueIdx.eq_ix2 x)).trans ((pay2_at _ _ _ (x 0) (x 1)).trans ?_)
      pointwise [r0_0, r0_1]
      blk_point [iblk, idx n]
  blk_ext [idx n]

/-- At the ideal values the kernel and the reference compute the same array. -/
theorem algebraic : Cert.algebraic_MemAttnIdeal_MemReferenceIdeal := by
  pair_intro
  · run_from Cert.MemAttnIdeal.Gen.run_main m g
  · run_from Cert.MemReferenceIdeal.Value.run m' g'
    exact (final m c).symm

/-- The frame of the kernel. -/
theorem frame_p : Cert.quiescent_MemAttn := fun m g _ => Cert.MemAttn.Gen.frame m g
/-- The frame of its idealization. -/
theorem frame_pi : Cert.quiescent_MemAttnIdeal := fun m g _ => Cert.MemAttnIdeal.Gen.frame m g
/-- The frame of the reference: the run of its host operations, which use no semaphore. -/
theorem frame_ri : Cert.quiescent_MemReferenceIdeal := fun m g _ =>
  (θ_run Cert.MemReferenceIdeal.defs _ _).mono (fun r h => ⟨fun c => (h c).2, sem_eq_zero_of_no_sems (by decide) r.2⟩)
    (Cert.MemReferenceIdeal.Value.run (F := Ideal) m g)

end Cert.MemAttnProof

end
-- ==== Proof.GatesValue.lean ====
module

public import proofs.«01_k».proof.Defs
public import proofs.«01_k».proof.Proof.Gen.Gates.Frame
public import proofs.«01_k».proof.Proof.Gen.GatesIdeal.Value
public import proofs.«01_k».proof.Proof.Gen.GatesReferenceIdeal.Run
public import proofs.«01_k».proof.Proof.Gen.GatesReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesProof

open Cert.GatesIdeal Cert.GatesIdeal.Gen

variable (m : (ℓ : Loc nD τ sig) → Buf (Elt Ideal) ℓ)

/-- The reference's result as a function of its three arguments. -/
abbrev REF (a : FVec Ideal S4x8192x2048 .f32) (w : FVec Ideal S2048x17968 .f32) (b : FVec Ideal S3x2048 .f32) : FVec Ideal S32768x6144 .bf16 :=
  Cert.GatesReferenceIdeal.Read.val_main_v13 (F := Ideal) a w b

/-- The block every window holds at grid point `t`. -/
theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

/-- The body's result read at an index: the logistic function of the row times the column plus the bias. -/
theorem pay_at (a : FVec Ideal S1024x2048 .bf16) (w : FVec Ideal S2048x1536 .bf16) (b : FVec Ideal S1x1536 .f32) (i : Fin 1024) (j : Fin 1536) :
    k0_pay1 (F := Ideal) a w b (ix2 i j) = Ideal.div 1 (1 + Ideal.exp (-((∑ k : Fin 2048, a (ix2 i k) * w (ix2 k j)) + b (ix2 0 j)))) := by
  pointwise [k0_pay1]
  rfl

/-- The reference's result read at an index. -/
theorem ref_at (a : FVec Ideal S4x8192x2048 .f32) (w : FVec Ideal S2048x17968 .f32) (b : FVec Ideal S3x2048 .f32) (i : Fin 32768) (j : Fin 6144) :
    REF a w b (ix2 i j) = Ideal.div 1 (1 + Ideal.exp (-((∑ k : Fin 2048, a (ix3 ⟨i / 8192, by omega⟩ ⟨i % 8192, by omega⟩ k) * w (ix2 k ⟨11824 + j, by omega⟩))
      + b (ix2 ⟨j / 2048, by omega⟩ ⟨j % 2048, by omega⟩)))) := by
  pointwise [REF, Cert.GatesReferenceIdeal.Read.val_main_v13, Cert.GatesReferenceIdeal.Read.val_main_v12, Cert.GatesReferenceIdeal.Read.val_main_v11, Cert.GatesReferenceIdeal.Read.val_main_v10, Cert.GatesReferenceIdeal.Read.val_main_v9, Cert.GatesReferenceIdeal.Read.val_main_v8, Cert.GatesReferenceIdeal.Read.val_main_v7, Cert.GatesReferenceIdeal.Read.val_main_v6, Cert.GatesReferenceIdeal.Read.val_main_v5, Cert.GatesReferenceIdeal.Read.val_main_v4, Cert.GatesReferenceIdeal.Read.val_main_v3, Cert.GatesReferenceIdeal.Read.val_main_v2, Cert.GatesReferenceIdeal.Read.val_main_v1, Cert.GatesReferenceIdeal.Read.val_main_v0, Cert.GatesReferenceIdeal.Read.val_main_cst, Cert.GatesReferenceIdeal.Read.val_main_cst_0]

/-- What the body stores at index `(i, j)` of the block of point `t` is the reference at the place of `(i, j)` in the array. -/
theorem point (c : Dev nD) (t : Fin cfg0.N) (i : Fin 1024) (j : Fin 1536) (I : Fin 32768) (J : Fin 6144)
    (hI : (I : ℕ) = t.val / 4 * 1024 + i) (hJ : (J : ℕ) = t.val % 4 * 1536 + j) :
    k0_pay1 (F := Ideal) (iblk m c 0 t) (iblk m c 1 t) (iblk m c 2 t) (ix2 i j)
    = REF (m ((c : Thread nD τ).loc main_arg0)) (m ((c : Thread nD τ).loc main_arg1)) (m ((c : Thread nD τ).loc main_arg2)) (ix2 I J) := by
  rw [ref_at]
  refine (pay_at _ _ _ i j).trans ?_
  blk_point [iblk, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain_idx I : S32768x6144 := [t.val / 4 * 1024 + (y 0 : ℕ), t.val % 4 * 1536 + (y 1 : ℕ)] with hI
  refine (congrArg (k0_pay1 (F := Ideal) (iblk m c 0 t) (iblk m c 1 t) (iblk m c 2 t)) (ValueIdx.eq_ix2 y)).trans
    ((point m c t (y 0) (y 1) (I 0) (I 1) hI0 hI1).trans (congrArg (REF _ _ _) ?_))
  blk_ext [idx t]

/-- At the ideal values the kernel and the reference compute the same array. -/
theorem algebraic : Cert.algebraic_GatesIdeal_GatesReferenceIdeal := by
  pair_intro
  · run_from Cert.GatesIdeal.Gen.run_main m g
  · run_from Cert.GatesReferenceIdeal.Value.run m' g'
    exact (final m c).symm

/-- The frame of the kernel. -/
theorem frame_p : Cert.quiescent_Gates := fun m g _ => Cert.Gates.Gen.frame m g
/-- The frame of its idealization. -/
theorem frame_pi : Cert.quiescent_GatesIdeal := fun m g _ => Cert.GatesIdeal.Gen.frame m g
/-- The frame of the reference: the run of its host operations, which use no semaphore. -/
theorem frame_ri : Cert.quiescent_GatesReferenceIdeal := fun m g _ =>
  (θ_run Cert.GatesReferenceIdeal.defs _ _).mono (fun r h => ⟨fun c => (h c).2, sem_eq_zero_of_no_sems (by decide) r.2⟩)
    (Cert.GatesReferenceIdeal.Value.run (F := Ideal) m g)

end Cert.GatesProof

end
-- ==== Proof.MergeValue.lean ====
module

public import proofs.«01_k».proof.Defs
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeProof

open Cert.MergeIdeal Cert.MergeIdeal.Gen

variable (m : (ℓ : Loc nD τ sig) → Buf (Elt Ideal) ℓ)

/-- The reference's result as a function of its seven arguments. -/
abbrev REF (xa : FVec Ideal S4x8192x512 .f32) (xb : FVec Ideal S4x8192x1536 .f32) (xm : FVec Ideal S4x8192x1024 .f32) (wa : FVec Ideal S512x2048 .f32) (wb : FVec Ideal S1536x2048 .f32) (wm : FVec Ideal S1024x2048 .f32) (g : FVec Ideal S4x8192x3x2048 .f32) : FVec Ideal S32768x2048 .bf16 :=
  Cert.MergeReferenceIdeal.Read.val_main_v15 (F := Ideal) xa xb xm wa wb wm g

/-- The block every window holds at grid point `t`. -/
theorem idx : ∀ t : Fin cfg0.N, win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, t.val % 4] ∧ win0_7.index t = ![t.val / 4, 4 + t.val % 4] ∧ win0_8.index t = ![t.val / 4, 8 + t.val % 4]
    ∧ win0_9.index t = ![t.val / 4, t.val % 4] :=
  (by decide +kernel : ∀ t : Fin grid0.N, _)

/-- The body's result read at an index: the three products, each times its gate. -/
theorem pay_at (a : FVec Ideal S1024x512 .bf16) (wa : FVec Ideal S512x512 .bf16) (b : FVec Ideal S1024x1536 .bf16) (wb : FVec Ideal S1536x512 .bf16)
    (d : FVec Ideal S1024x1024 .bf16) (wd : FVec Ideal S1024x512 .bf16) (g0 g1 g2 : FVec Ideal S1024x512 .bf16) (i : Fin 1024) (j : Fin 512) :
    k0_pay1 (F := Ideal) a wa b wb d wd g0 g1 g2 (ix2 i j) = g0 (ix2 i j) * (∑ k : Fin 512, a (ix2 i k) * wa (ix2 k j))
      + g1 (ix2 i j) * (∑ k : Fin 1536, b (ix2 i k) * wb (ix2 k j)) + g2 (ix2 i j) * (∑ k : Fin 1024, d (ix2 i k) * wd (ix2 k j)) := by
  pointwise [k0_pay1]

/-- The reference's result read at an index. -/
theorem ref_at (xa : FVec Ideal S4x8192x512 .f32) (xb : FVec Ideal S4x8192x1536 .f32) (xm : FVec Ideal S4x8192x1024 .f32) (wa : FVec Ideal S512x2048 .f32) (wb : FVec Ideal S1536x2048 .f32) (wm : FVec Ideal S1024x2048 .f32) (g : FVec Ideal S4x8192x3x2048 .f32) (i : Fin 32768) (j : Fin 2048) :
    REF xa xb xm wa wb wm g (ix2 i j) = g (ix4 ⟨i / 8192, by omega⟩ ⟨i % 8192, by omega⟩ 0 j) * (∑ k : Fin 512, xa (ix3 ⟨i / 8192, by omega⟩ ⟨i % 8192, by omega⟩ k) * wa (ix2 k j))
      + g (ix4 ⟨i / 8192, by omega⟩ ⟨i % 8192, by omega⟩ 1 j) * (∑ k : Fin 1536, xb (ix3 ⟨i / 8192, by omega⟩ ⟨i % 8192, by omega⟩ k) * wb (ix2 k j))
      + g (ix4 ⟨i / 8192, by omega⟩ ⟨i % 8192, by omega⟩ 2 j) * (∑ k : Fin 1024, xm (ix3 ⟨i / 8192, by omega⟩ ⟨i % 8192, by omega⟩ k) * wm (ix2 k j)) := by
  pointwise [REF, Cert.MergeReferenceIdeal.Read.val_main_v15, Cert.MergeReferenceIdeal.Read.val_main_v14, Cert.MergeReferenceIdeal.Read.val_main_v13, Cert.MergeReferenceIdeal.Read.val_main_v12, Cert.MergeReferenceIdeal.Read.val_main_v11, Cert.MergeReferenceIdeal.Read.val_main_v10, Cert.MergeReferenceIdeal.Read.val_main_v9, Cert.MergeReferenceIdeal.Read.val_main_v8, Cert.MergeReferenceIdeal.Read.val_main_v7, Cert.MergeReferenceIdeal.Read.val_main_v6, Cert.MergeReferenceIdeal.Read.val_main_v5, Cert.MergeReferenceIdeal.Read.val_main_v4, Cert.MergeReferenceIdeal.Read.val_main_v3, Cert.MergeReferenceIdeal.Read.val_main_v2, Cert.MergeReferenceIdeal.Read.val_main_v1, Cert.MergeReferenceIdeal.Read.val_main_v0]

/-- What the body stores at index `(i, j)` of the block of point `t` is the reference at the place of `(i, j)` in the array. -/
theorem point (c : Dev nD) (t : Fin cfg0.N) (i : Fin 1024) (j : Fin 512) (I : Fin 32768) (J : Fin 2048)
    (hI : (I : ℕ) = t.val / 4 * 1024 + i) (hJ : (J : ℕ) = t.val % 4 * 512 + j) :
    k0_pay1 (F := Ideal) (iblk m c 0 t) (iblk m c 3 t) (iblk m c 1 t) (iblk m c 4 t) (iblk m c 2 t) (iblk m c 5 t) (iblk m c 6 t) (iblk m c 7 t) (iblk m c 8 t) (ix2 i j)
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 I J) := by
  rw [ref_at]
  refine (pay_at _ _ _ _ _ _ _ _ _ i j).trans ?_
  blk_point [iblk, idx t]

/-- The result array after the run is the reference's result. -/
theorem final (c : Dev nD) : (dats m 0 c).arrAt 9 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  obtain_idx I : S32768x2048 := [t.val / 4 * 1024 + (y 0 : ℕ), t.val % 4 * 512 + (y 1 : ℕ)] with hI
  refine (congrArg (k0_pay1 (F := Ideal) (iblk m c 0 t) (iblk m c 3 t) (iblk m c 1 t) (iblk m c 4 t) (iblk m c 2 t) (iblk m c 5 t) (iblk m c 6 t) (iblk m c 7 t) (iblk m c 8 t)) (ValueIdx.eq_ix2 y)).trans
    ((point m c t (y 0) (y 1) (I 0) (I 1) hI0 hI1).trans (congrArg (REF _ _ _ _ _ _ _) ?_))
  blk_ext [idx t]

/-- At the ideal values the kernel and the reference compute the same array. -/
theorem algebraic : Cert.algebraic_MergeIdeal_MergeReferenceIdeal := by
  pair_intro
  · run_from Cert.MergeIdeal.Gen.run_main m g
  · run_from Cert.MergeReferenceIdeal.Value.run m' g'
    exact (final m c).symm

/-- The frame of the kernel. -/
theorem frame_p : Cert.quiescent_Merge := fun m g _ => Cert.Merge.Gen.frame m g
/-- The frame of its idealization. -/
theorem frame_pi : Cert.quiescent_MergeIdeal := fun m g _ => Cert.MergeIdeal.Gen.frame m g
/-- The frame of the reference: the run of its host operations, which use no semaphore. -/
theorem frame_ri : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

end Cert.MergeProof

end
-- ==== Proof.OutValue.lean ====
module

public import proofs.«01_k».proof.Defs
public import proofs.«01_k».proof.Proof.Gen.OutIdeal.Value
public import proofs.«01_k».proof.Proof.Gen.Out.Frame
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProof

open Cert.OutIdeal Cert.OutIdeal.Gen

variable (m : (ℓ : Loc nD τ sig) → Buf (Elt Ideal) ℓ)

/-- The reference's result as a function of its three arguments. -/
abbrev REF (x mix : FVec Ideal S4x8192x2048 .f32) (w : FVec Ideal S2048x2048 .f32) : FVec Ideal S32768x2048 .f32 :=
  Cert.OutReferenceIdeal.Read.val_main_v2 (F := Ideal) x mix w

/-- The block every window holds at grid point `t`. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The body's result read at an index: the residual there plus the row times the column. -/
theorem pay_at (r : FVec Ideal S1024x1024 .f32) (a : FVec Ideal S1024x2048 .bf16) (b : FVec Ideal S2048x1024 .bf16) (i j : Fin 1024) :
    k0_pay1 (F := Ideal) r a b (ix2 i j) = r (ix2 i j) + ∑ k : Fin 2048, a (ix2 i k) * b (ix2 k j) := by
  pointwise [k0_pay1]

/-- The reference's result read at an index. -/
theorem ref_at (x mix : FVec Ideal S4x8192x2048 .f32) (w : FVec Ideal S2048x2048 .f32) (i : Fin 32768) (j : Fin 2048) :
    REF x mix w (ix2 i j) = x (ix3 ⟨i / 8192, by omega⟩ ⟨i % 8192, by omega⟩ j)
      + ∑ k : Fin 2048, mix (ix3 ⟨i / 8192, by omega⟩ ⟨i % 8192, by omega⟩ k) * w (ix2 k j) := by
  pointwise [REF, Cert.OutReferenceIdeal.Read.val_main_v2, Cert.OutReferenceIdeal.Read.val_main_v1, Cert.OutReferenceIdeal.Read.val_main_v0]

/-- What the body stores at index `(i, j)` of the block of point `t` is the reference at the place of `(i, j)` in the array. -/
theorem point (c : Dev nD) (t : Fin cfg0.N) (i j : Fin 1024) (I : Fin 32768) (J : Fin 2048)
    (hI : (I : ℕ) = t.val / 2 * 1024 + i) (hJ : (J : ℕ) = t.val % 2 * 1024 + j) :
    k0_pay1 (F := Ideal) (iblk m c 2 t) (iblk m c 0 t) (iblk m c 1 t) (ix2 i j)
    = REF (m ((c : Thread nD τ).loc main_arg0)) (m ((c : Thread nD τ).loc main_arg1)) (m ((c : Thread nD τ).loc main_arg2)) (ix2 I J) := by
  rw [ref_at]
  refine (pay_at _ _ _ i j).trans ?_
  blk_point [iblk, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain_idx I : S32768x2048 := [t.val / 2 * 1024 + (y 0 : ℕ), t.val % 2 * 1024 + (y 1 : ℕ)] with hI
  refine (congrArg (k0_pay1 (F := Ideal) (iblk m c 2 t) (iblk m c 0 t) (iblk m c 1 t)) (ValueIdx.eq_ix2 y)).trans
    ((point m c t (y 0) (y 1) (I 0) (I 1) hI0 hI1).trans (congrArg (REF _ _ _) ?_))
  blk_ext [idx t]
/-- At the ideal values the call of the output projection and the reference compute the same array. -/
theorem algebraic : Cert.algebraic_OutIdeal_OutReferenceIdeal := by
  pair_intro
  · run_from Cert.OutIdeal.Gen.run_main m g
  · run_from Cert.OutReferenceIdeal.Value.run m' g'
    exact (final m c).symm

/-- The frames of the four programs. -/
theorem frame_p : Cert.quiescent_Out := fun m g _ => Cert.Out.Gen.frame m g
theorem frame_pi : Cert.quiescent_OutIdeal := fun m g _ => Cert.OutIdeal.Gen.frame m g
theorem frame_ri : Cert.quiescent_OutReferenceIdeal := fun m g _ =>
  (θ_run Cert.OutReferenceIdeal.defs _ _).mono (fun r h => ⟨fun c => (h c).2, sem_eq_zero_of_no_sems (by decide) r.2⟩)
    (Cert.OutReferenceIdeal.Value.run (F := Ideal) m g)

end Cert.OutProof

end
-- ==== Proof.NormValue.lean ====
module

public import proofs.«01_k».proof.Defs
public import proofs.«01_k».proof.Proof.Gen.Norm.Frame
public import proofs.«01_k».proof.Proof.Gen.NormIdeal.Value
public import proofs.«01_k».proof.Proof.Gen.NormReferenceIdeal.Run
public import proofs.«01_k».proof.Proof.Gen.NormReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormProof

open Cert.NormIdeal Cert.NormIdeal.Gen

variable (m : (ℓ : Loc nD τ sig) → Buf (Elt Ideal) ℓ)

/-- The reference's result as a function of its two arguments. -/
abbrev REF (x : FVec Ideal S4x8192x2048 .f32) (g : FVec Ideal S2048 .f32) : FVec Ideal S32768x2048 .bf16 :=
  Cert.NormReferenceIdeal.Read.val_main_v14 (F := Ideal) x g

/-- The block every window holds at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The body's result read at an index. -/
theorem pay_at (x : FVec Ideal S512x2048 .f32) (g : FVec Ideal S1x2048 .f32) (i : Fin 512) (j : Fin 2048) :
    k0_pay1 (F := Ideal) x g (ix2 i j) = x (ix2 i j) * Ideal.rsqrt (Ideal.div (∑ k : Fin 2048, x (ix2 i k) * x (ix2 i k))
      (Ideal.ofBits .f32 1157627904#32) + Ideal.ofBits .f32 897988541#32) * g (ix2 0 j) := by
  pointwise [k0_pay1]

/-- The reference's result read at an index. -/
theorem ref_at (x : FVec Ideal S4x8192x2048 .f32) (g : FVec Ideal S2048 .f32) (i : Fin 32768) (j : Fin 2048) :
    REF x g (ix2 i j) = x (ix3 ⟨i / 8192, by omega⟩ ⟨i % 8192, by omega⟩ j) * Ideal.rsqrt (Ideal.div (∑ k : Fin 2048, x (ix3 ⟨i / 8192, by omega⟩ ⟨i % 8192, by omega⟩ k) * x (ix3 ⟨i / 8192, by omega⟩ ⟨i % 8192, by omega⟩ k))
      (Ideal.ofBits .f32 1157627904#32) + Ideal.ofBits .f32 897988541#32) * g (ix1 j) := by
  pointwise [REF, Cert.NormReferenceIdeal.Read.val_main_v14, Cert.NormReferenceIdeal.Read.val_main_v13, Cert.NormReferenceIdeal.Read.val_main_v12, Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_cst_1, Cert.NormReferenceIdeal.Read.val_main_v4, Cert.NormReferenceIdeal.Read.val_main_v3, Cert.NormReferenceIdeal.Read.val_main_cst_0, Cert.NormReferenceIdeal.Read.val_main_v2, Cert.NormReferenceIdeal.Read.val_main_v1, Cert.NormReferenceIdeal.Read.val_main_cst, Cert.NormReferenceIdeal.Read.val_main_v0]

/-- What the body stores at index `(i, j)` of the block of point `t` is the reference at the place of `(i, j)` in the array. -/
theorem point (c : Dev nD) (t : Fin cfg0.N) (i : Fin 512) (j : Fin 2048) (I : Fin 32768) (J : Fin 2048)
    (hI : (I : ℕ) = t.val * 512 + i) (hJ : (J : ℕ) = j) :
    k0_pay1 (F := Ideal) (iblk m c 0 t) (iblk m c 1 t) (ix2 i j)
    = REF (m ((c : Thread nD τ).loc main_arg0)) (m ((c : Thread nD τ).loc main_arg1)) (ix2 I J) := by
  obtain rfl : J = j := Fin.ext hJ
  rw [ref_at]
  refine (pay_at _ _ i J).trans ?_
  blk_point [iblk, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain_idx I : S32768x2048 := [t.val * 512 + (y 0 : ℕ), (y 1 : ℕ)] with hI
  refine (congrArg (k0_pay1 (F := Ideal) (iblk m c 0 t) (iblk m c 1 t)) (ValueIdx.eq_ix2 y)).trans
    ((point m c t (y 0) (y 1) (I 0) (I 1) hI0 hI1).trans (congrArg (REF _ _) ?_))
  blk_ext [idx t]

/-- At the ideal values the kernel and the reference compute the same array. -/
theorem algebraic : Cert.algebraic_NormIdeal_NormReferenceIdeal := by
  pair_intro
  · run_from Cert.NormIdeal.Gen.run_main m g
  · run_from Cert.NormReferenceIdeal.Value.run m' g'
    exact (final m c).symm

/-- The frame of the kernel. -/
theorem frame_p : Cert.quiescent_Norm := fun m g _ => Cert.Norm.Gen.frame m g
/-- The frame of its idealization. -/
theorem frame_pi : Cert.quiescent_NormIdeal := fun m g _ => Cert.NormIdeal.Gen.frame m g
/-- The frame of the reference: the run of its host operations, which use no semaphore. -/
theorem frame_ri : Cert.quiescent_NormReferenceIdeal := fun m g _ =>
  (θ_run Cert.NormReferenceIdeal.defs _ _).mono (fun r h => ⟨fun c => (h c).2, sem_eq_zero_of_no_sems (by decide) r.2⟩)
    (Cert.NormReferenceIdeal.Value.run (F := Ideal) m g)

end Cert.NormProof

end
-- ==== Proof.RopeValue.lean ====
module

public import proofs.«01_k».proof.Defs
public import proofs.«01_k».proof.Proof.Gen.Rope.Frame
public import proofs.«01_k».proof.Proof.Gen.RopeIdeal.Value
public import proofs.«01_k».proof.Proof.Gen.RopeReferenceIdeal.Run
public import proofs.«01_k».proof.Proof.Gen.RopeReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeProof

open Cert.RopeIdeal Cert.RopeIdeal.Gen

variable (m : (ℓ : Loc nD τ sig) → Buf (Elt Ideal) ℓ)

/-! ## The values of the host operations that build the cosine and sine tables, in their order -/

/-- One host operation's value. -/
def Tv3 : FVec Ideal S16 .f32 := (sitofp (F := Ideal) .f32 (iotaInDim S16 32 0))
/-- One host operation's value. -/
def Tv4 : FVec Ideal S16 .f32 := (Host.negf : FVec Ideal S16 .f32 → FVec Ideal S16 .f32) Tv3
/-- One host operation's value. -/
def Tcst : FVec Ideal S_ .f32 := (constant (F := Ideal) S_ .f32 0x41800000#32)
/-- One host operation's value. -/
def Tv5 : FVec Ideal S16 .f32 := (broadcastInDim S16 ![] bcast_S_S16 : FVec Ideal S_ .f32 → FVec Ideal S16 .f32) Tcst
/-- One host operation's value. -/
def Tv6 : FVec Ideal S16 .f32 := (Host.divf : FVec Ideal S16 .f32 → FVec Ideal S16 .f32 → FVec Ideal S16 .f32) Tv4 Tv5
/-- One host operation's value. -/
def Tcst_0 : FVec Ideal S_ .f32 := (constant (F := Ideal) S_ .f32 0x48F42400#32)
/-- One host operation's value. -/
def Tv7 : FVec Ideal S16 .f32 := (broadcastInDim S16 ![] bcast_S_S16 : FVec Ideal S_ .f32 → FVec Ideal S16 .f32) Tcst_0
/-- One host operation's value. -/
def Tv8 : FVec Ideal S16 .f32 := (Host.powf : FVec Ideal S16 .f32 → FVec Ideal S16 .f32 → FVec Ideal S16 .f32) Tv7 Tv6
/-- One host operation's value. -/
def Tv9 : FVec Ideal S8192 .f32 := (sitofp (F := Ideal) .f32 (iotaInDim S8192 32 0))
/-- One host operation's value. -/
def Tv10 : FVec Ideal S8192x1 .f32 := (broadcastInDim S8192x1 ![0] bcast_S8192_S8192x1_0 : FVec Ideal S8192 .f32 → FVec Ideal S8192x1 .f32) Tv9
/-- One host operation's value. -/
def Tv11 : FVec Ideal S1x16 .f32 := (broadcastInDim S1x16 ![1] bcast_S16_S1x16_1 : FVec Ideal S16 .f32 → FVec Ideal S1x16 .f32) Tv8
/-- One host operation's value. -/
def Tv12 : FVec Ideal S8192x16 .f32 := (broadcastInDim S8192x16 ![0, 1] bcast_S8192x1_S8192x16_0_1 : FVec Ideal S8192x1 .f32 → FVec Ideal S8192x16 .f32) Tv10
/-- One host operation's value. -/
def Tv13 : FVec Ideal S8192x16 .f32 := (broadcastInDim S8192x16 ![0, 1] bcast_S1x16_S8192x16_0_1 : FVec Ideal S1x16 .f32 → FVec Ideal S8192x16 .f32) Tv11
/-- One host operation's value. -/
def Tv14 : FVec Ideal S8192x16 .f32 := (mulf : FVec Ideal S8192x16 .f32 → FVec Ideal S8192x16 .f32 → FVec Ideal S8192x16 .f32) Tv12 Tv13
/-- One host operation's value. -/
def Tv15 : FVec Ideal S8192x16 .f32 := (Host.cos : FVec Ideal S8192x16 .f32 → FVec Ideal S8192x16 .f32) Tv14
/-- One host operation's value. -/
def Tv16 : FVec Ideal S8192x16 .f32 := (Host.sin : FVec Ideal S8192x16 .f32 → FVec Ideal S8192x16 .f32) Tv14
/-- One host operation's value. -/
def Tcst_1 : FVec Ideal S_ .f32 := (constant (F := Ideal) S_ .f32 0x00000000#32)
/-- One host operation's value. -/
def Tv17 : FVec Ideal S8192x96 .f32 := (broadcastInDim S8192x96 ![] bcast_S_S8192x96 : FVec Ideal S_ .f32 → FVec Ideal S8192x96 .f32) Tcst_1
/-- One host operation's value. -/
def Tcst_2 : FVec Ideal S_ .f32 := (constant (F := Ideal) S_ .f32 0x00000000#32)
/-- One host operation's value. -/
def Tv18 : FVec Ideal S8192x16 .f32 := (broadcastInDim S8192x16 ![] bcast_S_S8192x16 : FVec Ideal S_ .f32 → FVec Ideal S8192x16 .f32) Tcst_2
/-- One host operation's value. -/
def Tcst_3 : FVec Ideal S_ .f32 := (constant (F := Ideal) S_ .f32 0x3F800000#32)
/-- One host operation's value. -/
def Tv19 : FVec Ideal S8192x96 .f32 := (broadcastInDim S8192x96 ![] bcast_S_S8192x96 : FVec Ideal S_ .f32 → FVec Ideal S8192x96 .f32) Tcst_3
/-- One host operation's value. -/
def Tv20 : FVec Ideal S8192x96 .f32 := (addf : FVec Ideal S8192x96 .f32 → FVec Ideal S8192x96 .f32 → FVec Ideal S8192x96 .f32) Tv17 Tv19
/-- One host operation's value. -/
def Tv21 : FVec Ideal S8192x128 .f32 := (concatenate S8192x128 1 [⟨S8192x16, (Tv15 : FVec Ideal S8192x16 .f32)⟩, ⟨S8192x16, (Tv15 : FVec Ideal S8192x16 .f32)⟩, ⟨S8192x96, (Tv20 : FVec Ideal S8192x96 .f32)⟩] concatenates_S8192x16_S8192x16_S8192x96_S8192x128_d1 : FVec Ideal S8192x128 .f32)
/-- One host operation's value. -/
def Tv22 : FVec Ideal S8192x16 .f32 := (Host.negf : FVec Ideal S8192x16 .f32 → FVec Ideal S8192x16 .f32) Tv16
/-- One host operation's value. -/
def Tv23 : FVec Ideal S8192x128 .f32 := (concatenate S8192x128 1 [⟨S8192x16, (Tv22 : FVec Ideal S8192x16 .f32)⟩, ⟨S8192x16, (Tv18 : FVec Ideal S8192x16 .f32)⟩, ⟨S8192x96, (Tv17 : FVec Ideal S8192x96 .f32)⟩] concatenates_S8192x16_S8192x16_S8192x96_S8192x128_d1 : FVec Ideal S8192x128 .f32)
/-- One host operation's value. -/
def Tv24 : FVec Ideal S8192x128 .f32 := (concatenate S8192x128 1 [⟨S8192x16, (Tv18 : FVec Ideal S8192x16 .f32)⟩, ⟨S8192x16, (Tv16 : FVec Ideal S8192x16 .f32)⟩, ⟨S8192x96, (Tv17 : FVec Ideal S8192x96 .f32)⟩] concatenates_S8192x16_S8192x16_S8192x96_S8192x128_d1 : FVec Ideal S8192x128 .f32)
/-- One host operation's value. -/
def Tcst_4 : FVec Ideal S_ .f32 := (constant (F := Ideal) S_ .f32 0x3F800000#32)
/-- One host operation's value. -/
def Tv25 : FVec Ideal S8192x128 .f32 := (broadcastInDim S8192x128 ![] bcast_S_S8192x128 : FVec Ideal S_ .f32 → FVec Ideal S8192x128 .f32) Tcst_4
/-- One host operation's value. -/
def Tcst_5 : FVec Ideal S_ .f32 := (constant (F := Ideal) S_ .f32 0x00000000#32)
/-- One host operation's value. -/
def Tv26 : FVec Ideal S8192x128 .f32 := (broadcastInDim S8192x128 ![] bcast_S_S8192x128 : FVec Ideal S_ .f32 → FVec Ideal S8192x128 .f32) Tcst_5
/-- One host operation's value. -/
def Tcst_6 : FVec Ideal S_ .f32 := (constant (F := Ideal) S_ .f32 0x00000000#32)
/-- One host operation's value. -/
def Tv27 : FVec Ideal S8192x128 .f32 := (broadcastInDim S8192x128 ![] bcast_S_S8192x128 : FVec Ideal S_ .f32 → FVec Ideal S8192x128 .f32) Tcst_6
/-- One host operation's value. -/
def Tcst_7 : FVec Ideal S_ .f32 := (constant (F := Ideal) S_ .f32 0x3DB504F3#32)
/-- One host operation's value. -/
def Tv28 : FVec Ideal S8192x128 .f32 := (broadcastInDim S8192x128 ![] bcast_S_S8192x128 : FVec Ideal S_ .f32 → FVec Ideal S8192x128 .f32) Tcst_7
/-- One host operation's value. -/
def Tv29 : FVec Ideal S8192x128 .f32 := (mulf : FVec Ideal S8192x128 .f32 → FVec Ideal S8192x128 .f32 → FVec Ideal S8192x128 .f32) Tv21 Tv28
/-- One host operation's value. -/
def Tv30 : FVec Ideal S1x8192x128 .f32 := (broadcastInDim S1x8192x128 ![1, 2] bcast_S8192x128_S1x8192x128_1_2 : FVec Ideal S8192x128 .f32 → FVec Ideal S1x8192x128 .f32) Tv29
/-- One host operation's value. -/
def Tv31 : FVec Ideal S1x8192x128 .f32 := (broadcastInDim S1x8192x128 ![1, 2] bcast_S8192x128_S1x8192x128_1_2 : FVec Ideal S8192x128 .f32 → FVec Ideal S1x8192x128 .f32) Tv21
/-- One host operation's value. -/
def Tv32 : FVec Ideal S1x8192x128 .f32 := (broadcastInDim S1x8192x128 ![1, 2] bcast_S8192x128_S1x8192x128_1_2 : FVec Ideal S8192x128 .f32 → FVec Ideal S1x8192x128 .f32) Tv25
/-- One host operation's value. -/
def Tv33 : FVec Ideal S3x8192x128 .f32 := (concatenate S3x8192x128 0 [⟨S1x8192x128, (Tv30 : FVec Ideal S1x8192x128 .f32)⟩, ⟨S1x8192x128, (Tv31 : FVec Ideal S1x8192x128 .f32)⟩, ⟨S1x8192x128, (Tv32 : FVec Ideal S1x8192x128 .f32)⟩] concatenates_S1x8192x128_S1x8192x128_S1x8192x128_S3x8192x128_d0 : FVec Ideal S3x8192x128 .f32)
/-- One host operation's value. -/
def Tcst_8 : FVec Ideal S_ .f32 := (constant (F := Ideal) S_ .f32 0x3DB504F3#32)
/-- One host operation's value. -/
def Tv34 : FVec Ideal S8192x128 .f32 := (broadcastInDim S8192x128 ![] bcast_S_S8192x128 : FVec Ideal S_ .f32 → FVec Ideal S8192x128 .f32) Tcst_8
/-- One host operation's value. -/
def Tv35 : FVec Ideal S8192x128 .f32 := (mulf : FVec Ideal S8192x128 .f32 → FVec Ideal S8192x128 .f32 → FVec Ideal S8192x128 .f32) Tv23 Tv34
/-- One host operation's value. -/
def Tv36 : FVec Ideal S1x8192x128 .f32 := (broadcastInDim S1x8192x128 ![1, 2] bcast_S8192x128_S1x8192x128_1_2 : FVec Ideal S8192x128 .f32 → FVec Ideal S1x8192x128 .f32) Tv35
/-- One host operation's value. -/
def Tv37 : FVec Ideal S1x8192x128 .f32 := (broadcastInDim S1x8192x128 ![1, 2] bcast_S8192x128_S1x8192x128_1_2 : FVec Ideal S8192x128 .f32 → FVec Ideal S1x8192x128 .f32) Tv23
/-- One host operation's value. -/
def Tv38 : FVec Ideal S1x8192x128 .f32 := (broadcastInDim S1x8192x128 ![1, 2] bcast_S8192x128_S1x8192x128_1_2 : FVec Ideal S8192x128 .f32 → FVec Ideal S1x8192x128 .f32) Tv26
/-- One host operation's value. -/
def Tv39 : FVec Ideal S3x8192x128 .f32 := (concatenate S3x8192x128 0 [⟨S1x8192x128, (Tv36 : FVec Ideal S1x8192x128 .f32)⟩, ⟨S1x8192x128, (Tv37 : FVec Ideal S1x8192x128 .f32)⟩, ⟨S1x8192x128, (Tv38 : FVec Ideal S1x8192x128 .f32)⟩] concatenates_S1x8192x128_S1x8192x128_S1x8192x128_S3x8192x128_d0 : FVec Ideal S3x8192x128 .f32)
/-- One host operation's value. -/
def Tcst_9 : FVec Ideal S_ .f32 := (constant (F := Ideal) S_ .f32 0x3DB504F3#32)
/-- One host operation's value. -/
def Tv40 : FVec Ideal S8192x128 .f32 := (broadcastInDim S8192x128 ![] bcast_S_S8192x128 : FVec Ideal S_ .f32 → FVec Ideal S8192x128 .f32) Tcst_9
/-- One host operation's value. -/
def Tv41 : FVec Ideal S8192x128 .f32 := (mulf : FVec Ideal S8192x128 .f32 → FVec Ideal S8192x128 .f32 → FVec Ideal S8192x128 .f32) Tv24 Tv40
/-- One host operation's value. -/
def Tv42 : FVec Ideal S1x8192x128 .f32 := (broadcastInDim S1x8192x128 ![1, 2] bcast_S8192x128_S1x8192x128_1_2 : FVec Ideal S8192x128 .f32 → FVec Ideal S1x8192x128 .f32) Tv41
/-- One host operation's value. -/
def Tv43 : FVec Ideal S1x8192x128 .f32 := (broadcastInDim S1x8192x128 ![1, 2] bcast_S8192x128_S1x8192x128_1_2 : FVec Ideal S8192x128 .f32 → FVec Ideal S1x8192x128 .f32) Tv24
/-- One host operation's value. -/
def Tv44 : FVec Ideal S1x8192x128 .f32 := (broadcastInDim S1x8192x128 ![1, 2] bcast_S8192x128_S1x8192x128_1_2 : FVec Ideal S8192x128 .f32 → FVec Ideal S1x8192x128 .f32) Tv27
/-- One host operation's value. -/
def Tv45 : FVec Ideal S3x8192x128 .f32 := (concatenate S3x8192x128 0 [⟨S1x8192x128, (Tv42 : FVec Ideal S1x8192x128 .f32)⟩, ⟨S1x8192x128, (Tv43 : FVec Ideal S1x8192x128 .f32)⟩, ⟨S1x8192x128, (Tv44 : FVec Ideal S1x8192x128 .f32)⟩] concatenates_S1x8192x128_S1x8192x128_S1x8192x128_S3x8192x128_d0 : FVec Ideal S3x8192x128 .f32)

theorem V_cos (c : Dev nD) : V m c main_v33 = Tv33 := by sl_kernel_rfl
theorem V_sin1 (c : Dev nD) : V m c main_v39 = Tv39 := by sl_kernel_rfl
theorem V_sin2 (c : Dev nD) : V m c main_v45 = Tv45 := by sl_kernel_rfl

/-- The angle of position `p` and frequency `e`. -/
def ang (p : ℕ) (e : ℕ) : EReal := FloatOps.sitofp (F := Ideal) FTy.f32 (BitVec.ofNat 32 p) *
      Ideal.pow (Ideal.ofBits FTy.f32 1223959552#32)
        (Ideal.div (-FloatOps.sitofp (F := Ideal) FTy.f32 (BitVec.ofNat 32 e)) (Ideal.ofBits FTy.f32 1098907648#32))

/-- The scale of the queries. -/
def sc : EReal := Ideal.ofBits .f32 0x3DB504F3#32

theorem sc_nonneg : 0 ≤ sc := by
  unfold sc; simp [Ideal.ofBits, Ideal.ieee]
  first
  | positivity
  | exact mul_nonneg (by exact_mod_cast (by norm_num : (0 : ℝ) ≤ 11863283)) (by exact_mod_cast (by positivity : (0 : ℝ) ≤ (2 ^ 27)⁻¹))
  | exact mul_nonneg (EReal.coe_nonneg.2 (by positivity)) (EReal.coe_nonneg.2 (by positivity))
theorem sc_ne_top : sc ≠ ⊤ := by
  unfold sc; simp [Ideal.ofBits, Ideal.ieee]
  exact EReal.coe_ne_top _

theorem t14 (p : Fin 8192) (d : Fin 16) : Tv14 (ix2 p d) = ang p d := by
  pointwise [Tv14,Tv13,Tv12,Tv11,Tv10,Tv9,Tv8,Tv7,Tv6,Tv5,Tv4,Tv3,Tcst,Tcst_0,ang]
theorem t21 (p : Fin 8192) (d : Fin 128) : Tv21 (ix2 p d) = if d.val < 16 then Ideal.cos (ang p d) else if d.val < 32 then Ideal.cos (ang p (d - 16)) else 1 := by
  pointwise [Tv21, Tv15, Tv20, Tv17, Tv19,Tcst_1,Tcst_2,Tcst_3]
  simp only [t14]
  split_ifs <;> first | rfl | omega | simp
theorem t23 (p : Fin 8192) (d : Fin 128) : Tv23 (ix2 p d) = if d.val < 16 then -Ideal.sin (ang p d) else 0 := by
  pointwise [Tv23, Tv22, Tv16, Tv18, Tv17,Tcst_1,Tcst_2,Tcst_3]
  simp only [t14]
  split_ifs <;> first | rfl | omega | simp
theorem t24 (p : Fin 8192) (d : Fin 128) : Tv24 (ix2 p d) = if d.val < 16 then 0 else if d.val < 32 then Ideal.sin (ang p (d - 16)) else 0 := by
  pointwise [Tv24, Tv16, Tv18, Tv17,Tcst_1,Tcst_2,Tcst_3]
  simp only [t14]
  split_ifs <;> first | rfl | omega | simp
theorem t33 (a : Fin 3) (p : Fin 8192) (d : Fin 128) : Tv33 (ix3 a p d) = if a.val < 1 then Tv21 (ix2 p d) * sc else if a.val < 2 then Tv21 (ix2 p d) else 1 := by
  pointwise [Tv33, Tv32, Tv31, Tv30, Tv29, Tv28, Tv27, Tv26, Tv25, Tcst_4, Tcst_7, sc]
  split_ifs <;> first | rfl | omega | simp
theorem t39 (a : Fin 3) (p : Fin 8192) (d : Fin 128) : Tv39 (ix3 a p d) = if a.val < 1 then Tv23 (ix2 p d) * sc else if a.val < 2 then Tv23 (ix2 p d) else 0 := by
  pointwise [Tv39, Tv38, Tv37, Tv36, Tv35, Tv34, Tv26, Tcst_5, Tcst_8, sc]
  split_ifs <;> first | rfl | omega | simp
theorem t45 (a : Fin 3) (p : Fin 8192) (d : Fin 128) : Tv45 (ix3 a p d) = if a.val < 1 then Tv24 (ix2 p d) * sc else if a.val < 2 then Tv24 (ix2 p d) else 0 := by
  pointwise [Tv45, Tv44, Tv43, Tv42, Tv41, Tv40, Tv27, Tcst_6, Tcst_9, sc]
  split_ifs <;> first | rfl | omega | simp

/-- The reference's result as a function of its two arguments. -/
abbrev REF (a : FVec Ideal S4x8192x2048 .f32) (w : FVec Ideal S2048x17968 .f32) : FVec Ideal S32768x4608 .f32 :=
  Cert.RopeReferenceIdeal.Read.val_main_v74 (F := Ideal) a w

/-- Column `j` of the projection of row `p` of batch `b`. -/
def D (a : FVec Ideal S4x8192x2048 .f32) (w : FVec Ideal S2048x17968 .f32) (b : Fin 4) (p : Fin 8192) (j : ℕ) (hj : j < 17968) : EReal :=
  ∑ k : Fin 2048, a (ix3 b p k) * w (ix2 k ⟨j, hj⟩)

theorem D_congr (a : FVec Ideal S4x8192x2048 .f32) (w : FVec Ideal S2048x17968 .f32) (b : Fin 4) (p : Fin 8192) {j j' : ℕ} (hj : j < 17968) (h : j = j') :
    D a w b p j hj = D a w b p j' (h ▸ hj) := by subst h; rfl

theorem r3 (a : FVec Ideal S4x8192x2048 .f32) (w : FVec Ideal S2048x17968 .f32) (i : Fin 4) (p : Fin 8192) (d : Fin 1536) :
    Cert.RopeReferenceIdeal.Read.val_main_v3 (F := Ideal) a w (ix3 i p d) = D a w i p (3072 + d) (by omega) := by
  pointwise [Cert.RopeReferenceIdeal.Read.val_main_v3, Cert.RopeReferenceIdeal.Read.val_main_v0, D]

/-- The rotation of a row `f` at position `p`. -/
def rot (f : Fin 128 → EReal) (p : Fin 8192) (d : Fin 128) : EReal :=
  if h : d.val < 32 then
    if h' : d.val < 16 then f d * Ideal.cos (ang p d) - f ⟨16 + d, by omega⟩ * Ideal.sin (ang p d)
    else f ⟨16 + (d - 16), by omega⟩ * Ideal.cos (ang p (d - 16)) + f ⟨d - 16, by omega⟩ * Ideal.sin (ang p (d - 16))
  else f ⟨32 + (d - 32), by omega⟩

/-- The three tables' combination is the rotation. -/
theorem rot_eq (f : Fin 128 → EReal) (p : Fin 8192) (d : Fin 128) :
    f d * Tv21 (ix2 p d) + f ⟨(d + 128 - 112) % 128, by omega⟩ * Tv23 (ix2 p d) + f ⟨(d + 128 - 16) % 128, by omega⟩ * Tv24 (ix2 p d) = rot f p d := by
  rw [t21, t23, t24]; unfold rot
  rcases Nat.lt_or_ge d.val 16 with h | h
  · have h2 : d.val < 32 := by omega
    rw [if_pos h, if_pos h, if_pos h, dif_pos h2, dif_pos h, mul_zero, add_zero, mul_neg, sub_eq_add_neg,
      show (⟨(d + 128 - 112) % 128, by omega⟩ : Fin 128) = ⟨16 + d, by omega⟩ from Fin.ext (by simp only []; omega)]
  · rcases Nat.lt_or_ge d.val 32 with h2 | h2
    · rw [if_neg (by omega), if_pos h2, if_neg (by omega), if_neg (by omega), if_pos h2, dif_pos h2, dif_neg (by omega), mul_zero, add_zero,
        show (⟨(d + 128 - 16) % 128, by omega⟩ : Fin 128) = ⟨d - 16, by omega⟩ from Fin.ext (by simp only []; omega),
        show (⟨16 + (d - 16), by omega⟩ : Fin 128) = d from Fin.ext (by simp only []; omega)]
    · rw [if_neg (by omega), if_neg (by omega), if_neg (by omega), if_neg (by omega), if_neg (by omega), dif_neg (by omega), mul_zero, add_zero, mul_zero, add_zero, mul_one,
        show (⟨32 + (d - 32), by omega⟩ : Fin 128) = d from Fin.ext (by simp only []; omega)]

/-- The scale taken out of the three products. -/
theorem rot_sc (x y z a b c : EReal) : x * (a * sc) + y * (b * sc) + z * (c * sc) = (x * a + y * b + z * c) * sc := by
  rw [EReal.right_distrib_of_nonneg_of_ne_top sc_nonneg sc_ne_top, EReal.right_distrib_of_nonneg_of_ne_top sc_nonneg sc_ne_top,
    mul_assoc, mul_assoc, mul_assoc]

theorem r38 (a : FVec Ideal S4x8192x2048 .f32) (w : FVec Ideal S2048x17968 .f32) (i : Fin 4) (p : Fin 8192) (h : Fin 12) (d : Fin 128) :
    Cert.RopeReferenceIdeal.Read.val_main_v38 (F := Ideal) a w (ix4 i p h d)
      = rot (fun e => D a w i p (h * 128 + e) (by omega)) p d * sc := by
  pointwise [Cert.RopeReferenceIdeal.Read.val_main_v74, Cert.RopeReferenceIdeal.Read.val_main_v73, Cert.RopeReferenceIdeal.Read.val_main_v72, Cert.RopeReferenceIdeal.Read.val_main_v71, Cert.RopeReferenceIdeal.Read.val_main_v70, Cert.RopeReferenceIdeal.Read.val_main_v69, Cert.RopeReferenceIdeal.Read.val_main_v68, Cert.RopeReferenceIdeal.Read.val_main_v67, Cert.RopeReferenceIdeal.Read.val_main_v66, Cert.RopeReferenceIdeal.Read.val_main_v65, Cert.RopeReferenceIdeal.Read.val_main_v64, Cert.RopeReferenceIdeal.Read.val_main_v63, Cert.RopeReferenceIdeal.Read.val_main_v62, Cert.RopeReferenceIdeal.Read.val_main_v61, Cert.RopeReferenceIdeal.Read.val_main_v60, Cert.RopeReferenceIdeal.Read.val_main_v59, Cert.RopeReferenceIdeal.Read.val_main_v58, Cert.RopeReferenceIdeal.Read.val_main_v57, Cert.RopeReferenceIdeal.Read.val_main_v56, Cert.RopeReferenceIdeal.Read.val_main_v55, Cert.RopeReferenceIdeal.Read.val_main_v54, Cert.RopeReferenceIdeal.Read.val_main_v53, Cert.RopeReferenceIdeal.Read.val_main_v52, Cert.RopeReferenceIdeal.Read.val_main_v51, Cert.RopeReferenceIdeal.Read.val_main_v50, Cert.RopeReferenceIdeal.Read.val_main_v49, Cert.RopeReferenceIdeal.Read.val_main_v48, Cert.RopeReferenceIdeal.Read.val_main_v47, Cert.RopeReferenceIdeal.Read.val_main_v46, Cert.RopeReferenceIdeal.Read.val_main_v45, Cert.RopeReferenceIdeal.Read.val_main_v44, Cert.RopeReferenceIdeal.Read.val_main_cst_3, Cert.RopeReferenceIdeal.Read.val_main_v43, Cert.RopeReferenceIdeal.Read.val_main_v42, Cert.RopeReferenceIdeal.Read.val_main_cst_2, Cert.RopeReferenceIdeal.Read.val_main_v41, Cert.RopeReferenceIdeal.Read.val_main_v40, Cert.RopeReferenceIdeal.Read.val_main_v39, Cert.RopeReferenceIdeal.Read.val_main_v38, Cert.RopeReferenceIdeal.Read.val_main_v37, Cert.RopeReferenceIdeal.Read.val_main_cst_1, Cert.RopeReferenceIdeal.Read.val_main_v36, Cert.RopeReferenceIdeal.Read.val_main_v35, Cert.RopeReferenceIdeal.Read.val_main_v34, Cert.RopeReferenceIdeal.Read.val_main_v33, Cert.RopeReferenceIdeal.Read.val_main_v32, Cert.RopeReferenceIdeal.Read.val_main_v31, Cert.RopeReferenceIdeal.Read.val_main_v30, Cert.RopeReferenceIdeal.Read.val_main_v29, Cert.RopeReferenceIdeal.Read.val_main_v28, Cert.RopeReferenceIdeal.Read.val_main_v27, Cert.RopeReferenceIdeal.Read.val_main_v26, Cert.RopeReferenceIdeal.Read.val_main_v25, Cert.RopeReferenceIdeal.Read.val_main_v24, Cert.RopeReferenceIdeal.Read.val_main_v23, Cert.RopeReferenceIdeal.Read.val_main_v22, Cert.RopeReferenceIdeal.Read.val_main_v21, Cert.RopeReferenceIdeal.Read.val_main_v20, Cert.RopeReferenceIdeal.Read.val_main_v19, Cert.RopeReferenceIdeal.Read.val_main_v18, Cert.RopeReferenceIdeal.Read.val_main_v17, Cert.RopeReferenceIdeal.Read.val_main_v16, Cert.RopeReferenceIdeal.Read.val_main_v15, Cert.RopeReferenceIdeal.Read.val_main_v14, Cert.RopeReferenceIdeal.Read.val_main_v13, Cert.RopeReferenceIdeal.Read.val_main_v12, Cert.RopeReferenceIdeal.Read.val_main_v11, Cert.RopeReferenceIdeal.Read.val_main_v10, Cert.RopeReferenceIdeal.Read.val_main_cst_0, Cert.RopeReferenceIdeal.Read.val_main_v9, Cert.RopeReferenceIdeal.Read.val_main_v8, Cert.RopeReferenceIdeal.Read.val_main_cst, Cert.RopeReferenceIdeal.Read.val_main_v7, Cert.RopeReferenceIdeal.Read.val_main_v6, Cert.RopeReferenceIdeal.Read.val_main_v5, Cert.RopeReferenceIdeal.Read.val_main_v4, Cert.RopeReferenceIdeal.Read.val_main_v3, Cert.RopeReferenceIdeal.Read.val_main_v2, Cert.RopeReferenceIdeal.Read.val_main_v1, Cert.RopeReferenceIdeal.Read.val_main_v0, rot, D, ang, sc]

theorem r70 (a : FVec Ideal S4x8192x2048 .f32) (w : FVec Ideal S2048x17968 .f32) (i : Fin 4) (p : Fin 8192) (h : Fin 12) (d : Fin 128) :
    Cert.RopeReferenceIdeal.Read.val_main_v70 (F := Ideal) a w (ix4 i p h d)
      = rot (fun e => D a w i p (1536 + (h * 128 + e)) (by omega)) p d := by
  pointwise [Cert.RopeReferenceIdeal.Read.val_main_v74, Cert.RopeReferenceIdeal.Read.val_main_v73, Cert.RopeReferenceIdeal.Read.val_main_v72, Cert.RopeReferenceIdeal.Read.val_main_v71, Cert.RopeReferenceIdeal.Read.val_main_v70, Cert.RopeReferenceIdeal.Read.val_main_v69, Cert.RopeReferenceIdeal.Read.val_main_v68, Cert.RopeReferenceIdeal.Read.val_main_v67, Cert.RopeReferenceIdeal.Read.val_main_v66, Cert.RopeReferenceIdeal.Read.val_main_v65, Cert.RopeReferenceIdeal.Read.val_main_v64, Cert.RopeReferenceIdeal.Read.val_main_v63, Cert.RopeReferenceIdeal.Read.val_main_v62, Cert.RopeReferenceIdeal.Read.val_main_v61, Cert.RopeReferenceIdeal.Read.val_main_v60, Cert.RopeReferenceIdeal.Read.val_main_v59, Cert.RopeReferenceIdeal.Read.val_main_v58, Cert.RopeReferenceIdeal.Read.val_main_v57, Cert.RopeReferenceIdeal.Read.val_main_v56, Cert.RopeReferenceIdeal.Read.val_main_v55, Cert.RopeReferenceIdeal.Read.val_main_v54, Cert.RopeReferenceIdeal.Read.val_main_v53, Cert.RopeReferenceIdeal.Read.val_main_v52, Cert.RopeReferenceIdeal.Read.val_main_v51, Cert.RopeReferenceIdeal.Read.val_main_v50, Cert.RopeReferenceIdeal.Read.val_main_v49, Cert.RopeReferenceIdeal.Read.val_main_v48, Cert.RopeReferenceIdeal.Read.val_main_v47, Cert.RopeReferenceIdeal.Read.val_main_v46, Cert.RopeReferenceIdeal.Read.val_main_v45, Cert.RopeReferenceIdeal.Read.val_main_v44, Cert.RopeReferenceIdeal.Read.val_main_cst_3, Cert.RopeReferenceIdeal.Read.val_main_v43, Cert.RopeReferenceIdeal.Read.val_main_v42, Cert.RopeReferenceIdeal.Read.val_main_cst_2, Cert.RopeReferenceIdeal.Read.val_main_v41, Cert.RopeReferenceIdeal.Read.val_main_v40, Cert.RopeReferenceIdeal.Read.val_main_v39, Cert.RopeReferenceIdeal.Read.val_main_v38, Cert.RopeReferenceIdeal.Read.val_main_v37, Cert.RopeReferenceIdeal.Read.val_main_cst_1, Cert.RopeReferenceIdeal.Read.val_main_v36, Cert.RopeReferenceIdeal.Read.val_main_v35, Cert.RopeReferenceIdeal.Read.val_main_v34, Cert.RopeReferenceIdeal.Read.val_main_v33, Cert.RopeReferenceIdeal.Read.val_main_v32, Cert.RopeReferenceIdeal.Read.val_main_v31, Cert.RopeReferenceIdeal.Read.val_main_v30, Cert.RopeReferenceIdeal.Read.val_main_v29, Cert.RopeReferenceIdeal.Read.val_main_v28, Cert.RopeReferenceIdeal.Read.val_main_v27, Cert.RopeReferenceIdeal.Read.val_main_v26, Cert.RopeReferenceIdeal.Read.val_main_v25, Cert.RopeReferenceIdeal.Read.val_main_v24, Cert.RopeReferenceIdeal.Read.val_main_v23, Cert.RopeReferenceIdeal.Read.val_main_v22, Cert.RopeReferenceIdeal.Read.val_main_v21, Cert.RopeReferenceIdeal.Read.val_main_v20, Cert.RopeReferenceIdeal.Read.val_main_v19, Cert.RopeReferenceIdeal.Read.val_main_v18, Cert.RopeReferenceIdeal.Read.val_main_v17, Cert.RopeReferenceIdeal.Read.val_main_v16, Cert.RopeReferenceIdeal.Read.val_main_v15, Cert.RopeReferenceIdeal.Read.val_main_v14, Cert.RopeReferenceIdeal.Read.val_main_v13, Cert.RopeReferenceIdeal.Read.val_main_v12, Cert.RopeReferenceIdeal.Read.val_main_v11, Cert.RopeReferenceIdeal.Read.val_main_v10, Cert.RopeReferenceIdeal.Read.val_main_cst_0, Cert.RopeReferenceIdeal.Read.val_main_v9, Cert.RopeReferenceIdeal.Read.val_main_v8, Cert.RopeReferenceIdeal.Read.val_main_cst, Cert.RopeReferenceIdeal.Read.val_main_v7, Cert.RopeReferenceIdeal.Read.val_main_v6, Cert.RopeReferenceIdeal.Read.val_main_v5, Cert.RopeReferenceIdeal.Read.val_main_v4, Cert.RopeReferenceIdeal.Read.val_main_v3, Cert.RopeReferenceIdeal.Read.val_main_v2, Cert.RopeReferenceIdeal.Read.val_main_v1, Cert.RopeReferenceIdeal.Read.val_main_v0, rot, D, ang, sc]

/-- The three parts of the reference's columns. -/
theorem ref_q (a : FVec Ideal S4x8192x2048 .f32) (w : FVec Ideal S2048x17968 .f32) (i : Fin 32768) (h : Fin 12) (d : Fin 128) :
    REF a w (ix2 i ⟨h * 128 + d, by omega⟩) = Cert.RopeReferenceIdeal.Read.val_main_v38 (F := Ideal) a w (ix4 ⟨i / 8192, by omega⟩ ⟨i % 8192, by omega⟩ h d) := by
  pointwise [Cert.RopeReferenceIdeal.Read.val_main_v74,Cert.RopeReferenceIdeal.Read.val_main_v73,Cert.RopeReferenceIdeal.Read.val_main_v72,Cert.RopeReferenceIdeal.Read.val_main_v71]
  rw [dif_pos (by omega)]
theorem ref_k (a : FVec Ideal S4x8192x2048 .f32) (w : FVec Ideal S2048x17968 .f32) (i : Fin 32768) (h : Fin 12) (d : Fin 128) :
    REF a w (ix2 i ⟨1536 + (h * 128 + d), by omega⟩) = Cert.RopeReferenceIdeal.Read.val_main_v70 (F := Ideal) a w (ix4 ⟨i / 8192, by omega⟩ ⟨i % 8192, by omega⟩ h d) := by
  pointwise [Cert.RopeReferenceIdeal.Read.val_main_v74,Cert.RopeReferenceIdeal.Read.val_main_v73,Cert.RopeReferenceIdeal.Read.val_main_v72,Cert.RopeReferenceIdeal.Read.val_main_v71]
  rw [dif_pos (by omega)]
theorem ref_v (a : FVec Ideal S4x8192x2048 .f32) (w : FVec Ideal S2048x17968 .f32) (i : Fin 32768) (j : Fin 1536) :
    REF a w (ix2 i ⟨1536 + (1536 + j), by omega⟩) = Cert.RopeReferenceIdeal.Read.val_main_v3 (F := Ideal) a w (ix3 ⟨i / 8192, by omega⟩ ⟨i % 8192, by omega⟩ j) := by
  pointwise [Cert.RopeReferenceIdeal.Read.val_main_v74,Cert.RopeReferenceIdeal.Read.val_main_v73,Cert.RopeReferenceIdeal.Read.val_main_v72,Cert.RopeReferenceIdeal.Read.val_main_v71]

/-- The reference's result at row `i`, read at column `d` of head `h` of the queries, the keys or the values. -/
theorem ref_at (a : FVec Ideal S4x8192x2048 .f32) (w : FVec Ideal S2048x17968 .f32) (i : Fin 32768) (kind : Fin 3) (h : Fin 12) (d : Fin 128) :
    REF a w (ix2 i ⟨kind * 1536 + (h * 128 + d), by omega⟩)
      = D a w ⟨i / 8192, by omega⟩ ⟨i % 8192, by omega⟩ (kind * 1536 + (h * 128 + d)) (by omega) * Tv33 (ix3 kind ⟨i % 8192, by omega⟩ d)
      + D a w ⟨i / 8192, by omega⟩ ⟨i % 8192, by omega⟩ (kind * 1536 + (h * 128 + (d + 128 - 112) % 128)) (by omega) * Tv39 (ix3 kind ⟨i % 8192, by omega⟩ d)
      + D a w ⟨i / 8192, by omega⟩ ⟨i % 8192, by omega⟩ (kind * 1536 + (h * 128 + (d + 128 - 16) % 128)) (by omega) * Tv45 (ix3 kind ⟨i % 8192, by omega⟩ d) := by
  rw [t33, t39, t45]
  have e := rot_eq (fun e => D a w ⟨i / 8192, by omega⟩ ⟨i % 8192, by omega⟩ (kind * 1536 + (h * 128 + e)) (by omega)) ⟨i % 8192, by omega⟩ d
  simp only [] at e
  have hk : kind.val = 0 ∨ kind.val = 1 ∨ kind.val = 2 := by omega
  rcases hk with hk | hk | hk
  · simp only [if_pos (show kind.val < 1 by omega)]
    rw [rot_sc, e,
      show (⟨kind * 1536 + (h * 128 + d), by omega⟩ : Fin 4608) = ⟨h * 128 + d, by omega⟩ from Fin.ext (by simp only []; omega), ref_q, r38]
    exact congrArg (fun f => rot f ⟨i % 8192, by omega⟩ d * sc) (funext fun e => D_congr _ _ _ _ _ (by omega))
  · simp only [if_neg (show ¬ kind.val < 1 by omega), if_pos (show kind.val < 2 by omega)]
    rw [e,
      show (⟨kind * 1536 + (h * 128 + d), by omega⟩ : Fin 4608) = ⟨1536 + (h * 128 + d), by omega⟩ from Fin.ext (by simp only []; omega), ref_k, r70]
    exact congrArg (fun f => rot f ⟨i % 8192, by omega⟩ d) (funext fun e => D_congr _ _ _ _ _ (by omega))
  · simp only [if_neg (show ¬ kind.val < 1 by omega), if_neg (show ¬ kind.val < 2 by omega)]
    rw [mul_zero, mul_zero, mul_one, add_zero, add_zero,
      show (⟨kind * 1536 + (h * 128 + d), by omega⟩ : Fin 4608) = ⟨1536 + (1536 + (⟨h * 128 + d, by omega⟩ : Fin 1536)), by simp only []; omega⟩ from Fin.ext (by simp only []; omega), ref_v, r3]
    exact D_congr _ _ _ _ _ (by simp only []; omega)

/-- The block every window holds at grid point `t`. -/
theorem idx : ∀ t : Fin cfg0.N, win0_0.index t = ![t.val / 3, 0] ∧ win0_1.index t = ![0, t.val % 3] ∧ win0_2.index t = ![t.val % 3, t.val / 3 % 8, 0]
    ∧ win0_3.index t = ![t.val % 3, t.val / 3 % 8, 0] ∧ win0_4.index t = ![t.val % 3, t.val / 3 % 8, 0] ∧ win0_5.index t = ![t.val / 3, t.val % 3] :=
  (by decide +kernel : ∀ t : Fin grid0.N, _)

/-- A block of rows, read at an index. -/
theorem x_at (c : Dev nD) (n : Fin cfg0.N) (i : Fin 1024) (k : Fin 2048) :
    iblk m c 0 n (ix2 i k) = m ((c : Thread nD τ).loc main_arg0) (ix3 ⟨(n.val / 3 * 1024 + i) / 8192, by have := n.isLt; change n.val < 96 at this; omega⟩ ⟨(n.val / 3 * 1024 + i) % 8192, by omega⟩ k) := by
  blk_point [iblk, idx n]

/-- The tables' blocks, read at an index. -/
theorem c_at (c : Dev nD) (n : Fin cfg0.N) (i : Fin 1024) (d : Fin 128) :
    iblk m c 2 n (ix3 0 i d) = Tv33 (ix3 ⟨n.val % 3, by omega⟩ ⟨(n.val / 3 * 1024 + i) % 8192, by omega⟩ d) := by
  rw [← V_cos m c]
  blk_point [iblk, idx n]
theorem s1_at (c : Dev nD) (n : Fin cfg0.N) (i : Fin 1024) (d : Fin 128) :
    iblk m c 3 n (ix3 0 i d) = Tv39 (ix3 ⟨n.val % 3, by omega⟩ ⟨(n.val / 3 * 1024 + i) % 8192, by omega⟩ d) := by
  rw [← V_sin1 m c]
  blk_point [iblk, idx n]
theorem s2_at (c : Dev nD) (n : Fin cfg0.N) (i : Fin 1024) (d : Fin 128) :
    iblk m c 4 n (ix3 0 i d) = Tv45 (ix3 ⟨n.val % 3, by omega⟩ ⟨(n.val / 3 * 1024 + i) % 8192, by omega⟩ d) := by
  rw [← V_sin2 m c]
  blk_point [iblk, idx n]

/-- The weights' block at a point, read at an index. -/
theorem w_at (c : Dev nD) (t : Fin cfg0.N) (k : Fin 2048) (j : Fin 1536) :
    X0_1 m c t (ix2 k j) = m ((c : Thread nD τ).loc main_arg1) (ix2 k ⟨t.val % 3 * 1536 + j, by omega⟩) := by
  unfold X0_1 Pipeline.Window.fill
  rw [dif_pos (moved0_1 t _)]
  blk_point [iblk, idx t]

/-- What the body stores for the first head of a pair, read at an index. -/
theorem pay6_at (c s1 s2 : FVec Ideal S1x1024x128 .f32) (x : FVec Ideal S1024x2048 .bf16) (w : FVec Ideal S2048x256 .bf16) (i : Fin 1024) (d : Fin 128) :
    k0_pay6 (F := Ideal) c s1 s2 x w (ix2 i d)
     = (∑ k, x (ix2 i k) * w (ix2 k ⟨d, by omega⟩)) * c (ix3 0 i d) + (∑ k, x (ix2 i k) * w (ix2 k ⟨(d + 128 - 112) % 128, by omega⟩)) * s1 (ix3 0 i d)
       + (∑ k, x (ix2 i k) * w (ix2 k ⟨(d + 128 - 16) % 128, by omega⟩)) * s2 (ix3 0 i d) := by
  pointwise [k0_pay6, k0_pay5, k0_pay4, k0_pay3, k0_pay2]

/-- What the body stores for the second head of a pair, read at an index. -/
theorem pay7_at (c s1 s2 : FVec Ideal S1x1024x128 .f32) (x : FVec Ideal S1024x2048 .bf16) (w : FVec Ideal S2048x256 .bf16) (i : Fin 1024) (d : Fin 128) :
    k0_pay7 (F := Ideal) c s1 s2 x w (ix2 i d)
     = (∑ k, x (ix2 i k) * w (ix2 k ⟨128 + d, by omega⟩)) * c (ix3 0 i d) + (∑ k, x (ix2 i k) * w (ix2 k ⟨128 + (d + 128 - 112) % 128, by omega⟩)) * s1 (ix3 0 i d)
       + (∑ k, x (ix2 i k) * w (ix2 k ⟨128 + (d + 128 - 16) % 128, by omega⟩)) * s2 (ix3 0 i d) := by
  pointwise [k0_pay7, k0_pay5, k0_pay4, k0_pay3, k0_pay2]

/-- The product of a row and a column of the weights' block of a pair of heads is a column of the projection. -/
theorem sum_D (c : Dev nD) (n : Fin cfg0.N) (i : Fin 1024) (q : ℕ) (hq : q < 6) (xv : FVec Ideal S1024x2048 .bf16) (hx : xv = iblk m c 0 n) (wv : FVec Ideal S2048x256 .bf16)
    (hw : ∀ (k : Fin 2048) (j : Fin 256), wv (ix2 k j) = m ((c : Thread nD τ).loc main_arg1) (ix2 k ⟨n.val % 3 * 1536 + (q * 256 + j), by omega⟩))
    (e : Fin 256) (j : ℕ) (hj : j < 17968) (he : n.val % 3 * 1536 + (q * 256 + e) = j) :
    ∑ k : Fin 2048, xv (ix2 i k) * wv (ix2 k e)
      = D (m ((c : Thread nD τ).loc main_arg0)) (m ((c : Thread nD τ).loc main_arg1)) ⟨(n.val / 3 * 1024 + i) / 8192, by have := n.isLt; change n.val < 96 at this; omega⟩ ⟨(n.val / 3 * 1024 + i) % 8192, by omega⟩ j hj := by
  subst he hx
  refine Finset.sum_congr rfl fun k _ => ?_
  exact congrArg₂ (· * ·) (x_at m c n i k) (hw k e)

theorem point6 (c : Dev nD) (n : Fin cfg0.N) (i : Fin 1024) (d : Fin 128) (q : ℕ) (hq : q < 6) (wv : FVec Ideal S2048x256 .bf16)
    (hw : ∀ (k : Fin 2048) (j : Fin 256), wv (ix2 k j) = m ((c : Thread nD τ).loc main_arg1) (ix2 k ⟨n.val % 3 * 1536 + (q * 256 + j), by omega⟩))
    (I : Fin 32768) (J : Fin 4608) (hI : I.val = n.val / 3 * 1024 + i) (hJ : J.val = n.val % 3 * 1536 + (q * 256 + d)) :
    k0_pay6 (F := Ideal) (iblk m c 2 n) (iblk m c 3 n) (iblk m c 4 n) (iblk m c 0 n) wv (ix2 i d)
      = REF (m ((c : Thread nD τ).loc main_arg0)) (m ((c : Thread nD τ).loc main_arg1)) (ix2 I J) := by
  have hn := n.isLt; change n.val < 96 at hn
  rw [show I = ⟨n.val / 3 * 1024 + i, by omega⟩ from Fin.ext hI]
  rw [show J = ⟨(⟨n.val % 3, by omega⟩ : Fin 3) * 1536 + ((⟨q * 2, by omega⟩ : Fin 12) * 128 + d), by simp only []; omega⟩ from Fin.ext (by simp only []; omega)]
  refine (pay6_at _ _ _ _ _ i d).trans ?_
  rw [ref_at, c_at, s1_at, s2_at,
    sum_D m c n i q hq _ rfl wv hw _ _ (by omega) (by simp only []; omega : _ = n.val % 3 * 1536 + (q * 2 * 128 + d)),
    sum_D m c n i q hq _ rfl wv hw _ _ (by omega) (by simp only []; omega : _ = n.val % 3 * 1536 + (q * 2 * 128 + (d + 128 - 112) % 128)),
    sum_D m c n i q hq _ rfl wv hw _ _ (by omega) (by simp only []; omega : _ = n.val % 3 * 1536 + (q * 2 * 128 + (d + 128 - 16) % 128))]

theorem point7 (c : Dev nD) (n : Fin cfg0.N) (i : Fin 1024) (d : Fin 128) (q : ℕ) (hq : q < 6) (wv : FVec Ideal S2048x256 .bf16)
    (hw : ∀ (k : Fin 2048) (j : Fin 256), wv (ix2 k j) = m ((c : Thread nD τ).loc main_arg1) (ix2 k ⟨n.val % 3 * 1536 + (q * 256 + j), by omega⟩))
    (I : Fin 32768) (J : Fin 4608) (hI : I.val = n.val / 3 * 1024 + i) (hJ : J.val = n.val % 3 * 1536 + (q * 256 + 128 + d)) :
    k0_pay7 (F := Ideal) (iblk m c 2 n) (iblk m c 3 n) (iblk m c 4 n) (iblk m c 0 n) wv (ix2 i d)
      = REF (m ((c : Thread nD τ).loc main_arg0)) (m ((c : Thread nD τ).loc main_arg1)) (ix2 I J) := by
  have hn := n.isLt; change n.val < 96 at hn
  rw [show I = ⟨n.val / 3 * 1024 + i, by omega⟩ from Fin.ext hI]
  rw [show J = ⟨(⟨n.val % 3, by omega⟩ : Fin 3) * 1536 + ((⟨q * 2 + 1, by omega⟩ : Fin 12) * 128 + d), by simp only []; omega⟩ from Fin.ext (by simp only []; omega)]
  refine (pay7_at _ _ _ _ _ i d).trans ?_
  rw [ref_at, c_at, s1_at, s2_at,
    sum_D m c n i q hq _ rfl wv hw _ _ (by omega) (by simp only []; omega : _ = n.val % 3 * 1536 + ((q * 2 + 1) * 128 + d)),
    sum_D m c n i q hq _ rfl wv hw _ _ (by omega) (by simp only []; omega : _ = n.val % 3 * 1536 + ((q * 2 + 1) * 128 + (d + 128 - 112) % 128)),
    sum_D m c n i q hq _ rfl wv hw _ _ (by omega) (by simp only []; omega : _ = n.val % 3 * 1536 + ((q * 2 + 1) * 128 + (d + 128 - 16) % 128))]

theorem final (c : Dev nD) : (dats m 0 c).arrAt 5 (cfgs 0).N
    = REF (m ((c : Thread nD τ).loc main_arg0)) (m ((c : Thread nD τ).loc main_arg1)) := by
  refine (dats m 0 c).arrAt_eq_of_covers 5 _ (by decide +kernel) fun n _ y => ?_
  blk_simp
  rw [after0_5]; unfold outsAt0 out0_A_5; frame_out
  obtain_idx I : S32768x4608 := [n.val / 3 * 1024 + (y 0 : ℕ), n.val % 3 * 1536 + (y 1 : ℕ)] with hI
  refine Eq.trans (b := REF (m ((c : Thread nD τ).loc main_arg0)) (m ((c : Thread nD τ).loc main_arg1)) I) ?_ (congrArg (REF _ _) ?_)
  · refine Eq.trans ?_ (congrArg (REF (m ((c : Thread nD τ).loc main_arg0)) (m ((c : Thread nD τ).loc main_arg1))) (ValueIdx.eq_ix2 I)).symm
    canon_tiles x h
    · refine (show _ = k0_pay7 (F := Ideal) (iblk m c 2 n) (iblk m c 3 n) (iblk m c 4 n) (iblk m c 0 n) (View.ld (X0_1 m c n) (Rect.unit ![0, 1280] ![2048, 256] inb_S2048x1536_S2048x256_0_1280)) x from rfl).trans ?_
      refine (congrArg _ (ValueIdx.eq_ix2 x)).trans (point7 m c n (x 0) (x 1) 5 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 1280] ![2048, 256] inb_S2048x1536_S2048x256_0_1280)) x from rfl).trans ?_
      refine (congrArg _ (ValueIdx.eq_ix2 x)).trans (point6 m c n (x 0) (x 1) 5 (by decide) _ (fun k j => ?_) (I 0) (I 1) (by omega) (by omega))
      pointwise
      exact w_at m c n k _
    · refine (show _ = k0_pay7 (F := Ideal) (iblk m c 2 n) (iblk m c 3 n) (iblk m c 4 n) (iblk m c 0 n) (View.ld (X0_1 m c n) (Rect.unit ![0, 1024] ![2048, 256] inb_S2048x1536_S2048x256_0_1024)) x from rfl).trans ?_
      refine (congrArg _ (ValueIdx.eq_ix2 x)).trans (point7 m c n (x 0) (x 1) 4 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 1024] ![2048, 256] inb_S2048x1536_S2048x256_0_1024)) x from rfl).trans ?_
      refine (congrArg _ (ValueIdx.eq_ix2 x)).trans (point6 m c n (x 0) (x 1) 4 (by decide) _ (fun k j => ?_) (I 0) (I 1) (by omega) (by omega))
      pointwise
      exact w_at m c n k _
    · refine (show _ = k0_pay7 (F := Ideal) (iblk m c 2 n) (iblk m c 3 n) (iblk m c 4 n) (iblk m c 0 n) (View.ld (X0_1 m c n) (Rect.unit ![0, 768] ![2048, 256] inb_S2048x1536_S2048x256_0_768)) x from rfl).trans ?_
      refine (congrArg _ (ValueIdx.eq_ix2 x)).trans (point7 m c n (x 0) (x 1) 3 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 768] ![2048, 256] inb_S2048x1536_S2048x256_0_768)) x from rfl).trans ?_
      refine (congrArg _ (ValueIdx.eq_ix2 x)).trans (point6 m c n (x 0) (x 1) 3 (by decide) _ (fun k j => ?_) (I 0) (I 1) (by omega) (by omega))
      pointwise
      exact w_at m c n k _
    · refine (show _ = k0_pay7 (F := Ideal) (iblk m c 2 n) (iblk m c 3 n) (iblk m c 4 n) (iblk m c 0 n) (View.ld (X0_1 m c n) (Rect.unit ![0, 512] ![2048, 256] inb_S2048x1536_S2048x256_0_512)) x from rfl).trans ?_
      refine (congrArg _ (ValueIdx.eq_ix2 x)).trans (point7 m c n (x 0) (x 1) 2 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 512] ![2048, 256] inb_S2048x1536_S2048x256_0_512)) x from rfl).trans ?_
      refine (congrArg _ (ValueIdx.eq_ix2 x)).trans (point6 m c n (x 0) (x 1) 2 (by decide) _ (fun k j => ?_) (I 0) (I 1) (by omega) (by omega))
      pointwise
      exact w_at m c n k _
    · refine (show _ = k0_pay7 (F := Ideal) (iblk m c 2 n) (iblk m c 3 n) (iblk m c 4 n) (iblk m c 0 n) (View.ld (X0_1 m c n) (Rect.unit ![0, 256] ![2048, 256] inb_S2048x1536_S2048x256_0_256)) x from rfl).trans ?_
      refine (congrArg _ (ValueIdx.eq_ix2 x)).trans (point7 m c n (x 0) (x 1) 1 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 256] ![2048, 256] inb_S2048x1536_S2048x256_0_256)) x from rfl).trans ?_
      refine (congrArg _ (ValueIdx.eq_ix2 x)).trans (point6 m c n (x 0) (x 1) 1 (by decide) _ (fun k j => ?_) (I 0) (I 1) (by omega) (by omega))
      pointwise
      exact w_at m c n k _
    · refine (show _ = k0_pay7 (F := Ideal) (iblk m c 2 n) (iblk m c 3 n) (iblk m c 4 n) (iblk m c 0 n) (View.ld (X0_1 m c n) (Rect.unit ![0, 0] ![2048, 256] inb_S2048x1536_S2048x256_0_0)) x from rfl).trans ?_
      refine (congrArg _ (ValueIdx.eq_ix2 x)).trans (point7 m c n (x 0) (x 1) 0 (by decide) _ (fun k j => ?_) (I 0) (I 1) (by omega) (by omega))
      pointwise
      exact w_at m c n k _
    · refine (show _ = k0_pay6 (F := Ideal) (iblk m c 2 n) (iblk m c 3 n) (iblk m c 4 n) (iblk m c 0 n) (View.ld (X0_1 m c n) (Rect.unit ![0, 0] ![2048, 256] inb_S2048x1536_S2048x256_0_0)) x from rfl).trans ?_
      refine (congrArg _ (ValueIdx.eq_ix2 x)).trans (point6 m c n (x 0) (x 1) 0 (by decide) _ (fun k j => ?_) (I 0) (I 1) (by omega) (by omega))
      pointwise
      exact w_at m c n k _
  blk_ext [idx n]

/-- At the ideal values the kernel and the reference compute the same array. -/
theorem algebraic : Cert.algebraic_RopeIdeal_RopeReferenceIdeal := by
  pair_intro
  · run_from Cert.RopeIdeal.Gen.run_main m g
  · run_from Cert.RopeReferenceIdeal.Value.run m' g'
    rw [Cert.RopeReferenceIdeal.Read.val_main_v74_eq, (hagree c).1, (hagree c).2]
    exact (final m c).symm

/-- The frame of the kernel. -/
theorem frame_p : Cert.quiescent_Rope := fun m g _ => Cert.Rope.Gen.frame m g
/-- The frame of its idealization. -/
theorem frame_pi : Cert.quiescent_RopeIdeal := fun m g _ => Cert.RopeIdeal.Gen.frame m g
/-- The frame of the reference: the run of its host operations, which use no semaphore. -/
theorem frame_ri : Cert.quiescent_RopeReferenceIdeal := fun m g _ =>
  (θ_run Cert.RopeReferenceIdeal.defs _ _).mono (fun r h => ⟨fun c => (h c).2, sem_eq_zero_of_no_sems (by decide) r.2⟩)
    (Cert.RopeReferenceIdeal.Value.run (F := Ideal) m g)

end Cert.RopeProof

end
-- ==== Proof.ConvValue.lean ====
module

public import proofs.«01_k».proof.Defs
public import proofs.«01_k».proof.Proof.Gen.Conv.Frame
public import proofs.«01_k».proof.Proof.Gen.ConvIdeal.Value
public import proofs.«01_k».proof.Proof.Gen.ConvReferenceIdeal.Run
public import proofs.«01_k».proof.Proof.Gen.ConvReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvProof

open Cert.ConvIdeal Cert.ConvIdeal.Gen

variable (m : (ℓ : Loc nD τ sig) → Buf (Elt Ideal) ℓ)

/-- The reference's result as a function of its three arguments. -/
abbrev REF (a : FVec Ideal S4x8192x2048 .f32) (w : FVec Ideal S2048x17968 .f32) (g : FVec Ideal S5x4608 .f32) : FVec Ideal S36x32768x128 .bf16 :=
  Cert.ConvReferenceIdeal.Read.val_main_v65 (F := Ideal) a w g

/-- The scale of the queries. -/
def sc : EReal := Ideal.ofBits .f32 0x3DB504F3#32
/-- The small number under the root. -/
def eps : EReal := Ideal.ofBits .f32 0x358637BD#32
/-- A number times its sigmoid. -/
def sg (y : EReal) : EReal := y * Ideal.div 1 (1 + Ideal.exp (-y))

/-! ## The reference, read at an index -/

theorem sit0 : FloatOps.sitofp (F := Ideal) FTy.f32 0#32 = (0 : EReal) := by
  simp [FloatOps.sitofp]

/-- The padded projection inside the sequence. -/
theorem v2_in (a : FVec Ideal S4x8192x2048 .f32) (w : FVec Ideal S2048x17968 .f32) (b : Fin 4) (s : Fin 8196) (j : Fin 4608) (h : 2 ≤ s.val) (h' : s.val < 8194) :
    Cert.ConvReferenceIdeal.Read.val_main_v2 (F := Ideal) a w (ix3 b s j) = ∑ k : Fin 2048, a (ix3 b ⟨s - 2, by omega⟩ k) * w (ix2 k ⟨4608 + j, by omega⟩) := by
  pointwise [Cert.ConvReferenceIdeal.Read.val_main_v2, Cert.ConvReferenceIdeal.Read.val_main_v1, Cert.ConvReferenceIdeal.Read.val_main_v0, Cert.ConvReferenceIdeal.Read.val_main_call0_v0, Cert.ConvReferenceIdeal.Read.val_main_c]
  rw [dif_pos (by omega)]
/-- … and outside it. -/
theorem v2_out (a : FVec Ideal S4x8192x2048 .f32) (w : FVec Ideal S2048x17968 .f32) (b : Fin 4) (s : Fin 8196) (j : Fin 4608) (h : s.val < 2 ∨ 8194 ≤ s.val) :
    Cert.ConvReferenceIdeal.Read.val_main_v2 (F := Ideal) a w (ix3 b s j) = 0 := by
  pointwise [Cert.ConvReferenceIdeal.Read.val_main_v2, Cert.ConvReferenceIdeal.Read.val_main_v1, Cert.ConvReferenceIdeal.Read.val_main_v0, Cert.ConvReferenceIdeal.Read.val_main_call0_v0, Cert.ConvReferenceIdeal.Read.val_main_c]
  rw [dif_neg (by omega), sit0]

theorem v36_at (a : FVec Ideal S4x8192x2048 .f32) (w : FVec Ideal S2048x17968 .f32) (g : FVec Ideal S5x4608 .f32) (b : Fin 4) (s : Fin 8192) (j : Fin 4608) :
    Cert.ConvReferenceIdeal.Read.val_main_v36 (F := Ideal) a w g (ix3 b s j)
      = Cert.ConvReferenceIdeal.Read.val_main_v2 (F := Ideal) a w (ix3 b ⟨s, by omega⟩ j) * g (ix2 0 j) + Cert.ConvReferenceIdeal.Read.val_main_v2 (F := Ideal) a w (ix3 b ⟨1 + s, by omega⟩ j) * g (ix2 1 j)
      + Cert.ConvReferenceIdeal.Read.val_main_v2 (F := Ideal) a w (ix3 b ⟨2 + s, by omega⟩ j) * g (ix2 2 j) + Cert.ConvReferenceIdeal.Read.val_main_v2 (F := Ideal) a w (ix3 b ⟨3 + s, by omega⟩ j) * g (ix2 3 j)
      + Cert.ConvReferenceIdeal.Read.val_main_v2 (F := Ideal) a w (ix3 b ⟨4 + s, by omega⟩ j) * g (ix2 4 j) := by
  pointwise [Cert.ConvReferenceIdeal.Read.val_main_v36, Cert.ConvReferenceIdeal.Read.val_main_v35, Cert.ConvReferenceIdeal.Read.val_main_v34, Cert.ConvReferenceIdeal.Read.val_main_v33, Cert.ConvReferenceIdeal.Read.val_main_v32, Cert.ConvReferenceIdeal.Read.val_main_v31, Cert.ConvReferenceIdeal.Read.val_main_v30, Cert.ConvReferenceIdeal.Read.val_main_v29, Cert.ConvReferenceIdeal.Read.val_main_v28, Cert.ConvReferenceIdeal.Read.val_main_v27, Cert.ConvReferenceIdeal.Read.val_main_v26, Cert.ConvReferenceIdeal.Read.val_main_v25, Cert.ConvReferenceIdeal.Read.val_main_v24, Cert.ConvReferenceIdeal.Read.val_main_v23, Cert.ConvReferenceIdeal.Read.val_main_v22, Cert.ConvReferenceIdeal.Read.val_main_v21, Cert.ConvReferenceIdeal.Read.val_main_v20, Cert.ConvReferenceIdeal.Read.val_main_v19, Cert.ConvReferenceIdeal.Read.val_main_v18, Cert.ConvReferenceIdeal.Read.val_main_v17, Cert.ConvReferenceIdeal.Read.val_main_v16, Cert.ConvReferenceIdeal.Read.val_main_v15, Cert.ConvReferenceIdeal.Read.val_main_v14, Cert.ConvReferenceIdeal.Read.val_main_v13, Cert.ConvReferenceIdeal.Read.val_main_v12, Cert.ConvReferenceIdeal.Read.val_main_v11, Cert.ConvReferenceIdeal.Read.val_main_v10, Cert.ConvReferenceIdeal.Read.val_main_v9, Cert.ConvReferenceIdeal.Read.val_main_v8, Cert.ConvReferenceIdeal.Read.val_main_v7, Cert.ConvReferenceIdeal.Read.val_main_v6, Cert.ConvReferenceIdeal.Read.val_main_v5, Cert.ConvReferenceIdeal.Read.val_main_v4, Cert.ConvReferenceIdeal.Read.val_main_v3]
theorem v37_at (a : FVec Ideal S4x8192x2048 .f32) (w : FVec Ideal S2048x17968 .f32) (g : FVec Ideal S5x4608 .f32) (b : Fin 4) (s : Fin 8192) (j : Fin 4608) :
    Cert.ConvReferenceIdeal.Read.val_main_v37 (F := Ideal) a w g (ix3 b s j) = sg (Cert.ConvReferenceIdeal.Read.val_main_v36 (F := Ideal) a w g (ix3 b s j)) := by
  pointwise [Cert.ConvReferenceIdeal.Read.val_main_v37, Cert.ConvReferenceIdeal.Read.val_main_call1_v5, Cert.ConvReferenceIdeal.Read.val_main_call1_v4, Cert.ConvReferenceIdeal.Read.val_main_call1_v3, Cert.ConvReferenceIdeal.Read.val_main_call1_v2, Cert.ConvReferenceIdeal.Read.val_main_call1_v1, Cert.ConvReferenceIdeal.Read.val_main_call1_v0, Cert.ConvReferenceIdeal.Read.val_main_call1_cst, Cert.ConvReferenceIdeal.Read.val_main_call1_cst_0, sg]
theorem v41_at (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v41 (F := Ideal) a w g (ix4 b s h d) = Cert.ConvReferenceIdeal.Read.val_main_v37 (F := Ideal) a w g (ix3 b s ⟨h * 128 + d, by omega⟩) := by
  pointwise [Cert.ConvReferenceIdeal.Read.val_main_v41, Cert.ConvReferenceIdeal.Read.val_main_v38]
theorem v52_at (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v52 (F := Ideal) a w g (ix4 b s h d) = Cert.ConvReferenceIdeal.Read.val_main_v37 (F := Ideal) a w g (ix3 b s ⟨1536 + (h * 128 + d), by omega⟩) := by
  pointwise [Cert.ConvReferenceIdeal.Read.val_main_v52, Cert.ConvReferenceIdeal.Read.val_main_v39]
theorem v61_at (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v61 (F := Ideal) a w g (ix4 b s h d) = Cert.ConvReferenceIdeal.Read.val_main_v37 (F := Ideal) a w g (ix3 b s ⟨3072 + (h * 128 + d), by omega⟩) := by
  pointwise [Cert.ConvReferenceIdeal.Read.val_main_v61, Cert.ConvReferenceIdeal.Read.val_main_v40]

theorem q_sum (a : FVec Ideal S4x8192x2048 .f32) (w : FVec Ideal S2048x17968 .f32) (g : FVec Ideal S5x4608 .f32) (b : Fin 4) (s : Fin 8192) (h : Fin 12) :
    Cert.ConvReferenceIdeal.Read.val_main_v43 (F := Ideal) a w g (ix3 b s h) = ∑ e : Fin 128, Cert.ConvReferenceIdeal.Read.val_main_v41 (F := Ideal) a w g (ix4 b s h e) * Cert.ConvReferenceIdeal.Read.val_main_v41 (F := Ideal) a w g (ix4 b s h e) := by
  have q (e : Fin 128) : Cert.ConvReferenceIdeal.Read.val_main_v42 (F := Ideal) a w g (ix4 b s h e) = Cert.ConvReferenceIdeal.Read.val_main_v41 (F := Ideal) a w g (ix4 b s h e) * Cert.ConvReferenceIdeal.Read.val_main_v41 (F := Ideal) a w g (ix4 b s h e) := by
    rw [Cert.ConvReferenceIdeal.Read.val_main_v42_apply]
    generalize Cert.ConvReferenceIdeal.Read.val_main_v41 (F := Ideal) a w g (ix4 b s h e) = y
    rfl
  pointwise [Cert.ConvReferenceIdeal.Read.val_main_v43, Cert.ConvReferenceIdeal.Read.val_main_cst]
  simp only [q]
theorem q_rsq (a : FVec Ideal S4x8192x2048 .f32) (w : FVec Ideal S2048x17968 .f32) (g : FVec Ideal S5x4608 .f32) (b : Fin 4) (s : Fin 8192) (h : Fin 12) :
    Cert.ConvReferenceIdeal.Read.val_main_v47 (F := Ideal) a w g (ix4 b s h 0) = Ideal.rsqrt (Cert.ConvReferenceIdeal.Read.val_main_v44 (F := Ideal) a w g (ix4 b s h 0) + eps) := by
  pointwise [Cert.ConvReferenceIdeal.Read.val_main_v47, Cert.ConvReferenceIdeal.Read.val_main_v46, Cert.ConvReferenceIdeal.Read.val_main_v45, Cert.ConvReferenceIdeal.Read.val_main_cst_0, eps]
theorem q_col (a : FVec Ideal S4x8192x2048 .f32) (w : FVec Ideal S2048x17968 .f32) (g : FVec Ideal S5x4608 .f32) (b : Fin 4) (s : Fin 8192) (h : Fin 12) :
    Cert.ConvReferenceIdeal.Read.val_main_v44 (F := Ideal) a w g (ix4 b s h 0) = Cert.ConvReferenceIdeal.Read.val_main_v43 (F := Ideal) a w g (ix3 b s h) := by
  pointwise [Cert.ConvReferenceIdeal.Read.val_main_v44]
theorem q_mul (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v49 (F := Ideal) a w g (ix4 b s h d) = Cert.ConvReferenceIdeal.Read.val_main_v41 (F := Ideal) a w g (ix4 b s h d) * Cert.ConvReferenceIdeal.Read.val_main_v47 (F := Ideal) a w g (ix4 b s h 0) := by
  rw [Cert.ConvReferenceIdeal.Read.val_main_v49_apply, Cert.ConvReferenceIdeal.Read.val_main_v48_apply]
  generalize Cert.ConvReferenceIdeal.Read.val_main_v41 (F := Ideal) a w g = y
  generalize Cert.ConvReferenceIdeal.Read.val_main_v47 (F := Ideal) a w g = z
  refine congrArg (fun u => y (ix4 b s h d) * z u) ?_
  funext e
  fin_cases e <;> rfl

theorem k_sum (a : FVec Ideal S4x8192x2048 .f32) (w : FVec Ideal S2048x17968 .f32) (g : FVec Ideal S5x4608 .f32) (b : Fin 4) (s : Fin 8192) (h : Fin 12) :
    Cert.ConvReferenceIdeal.Read.val_main_v54 (F := Ideal) a w g (ix3 b s h) = ∑ e : Fin 128, Cert.ConvReferenceIdeal.Read.val_main_v52 (F := Ideal) a w g (ix4 b s h e) * Cert.ConvReferenceIdeal.Read.val_main_v52 (F := Ideal) a w g (ix4 b s h e) := by
  have q (e : Fin 128) : Cert.ConvReferenceIdeal.Read.val_main_v53 (F := Ideal) a w g (ix4 b s h e) = Cert.ConvReferenceIdeal.Read.val_main_v52 (F := Ideal) a w g (ix4 b s h e) * Cert.ConvReferenceIdeal.Read.val_main_v52 (F := Ideal) a w g (ix4 b s h e) := by
    rw [Cert.ConvReferenceIdeal.Read.val_main_v53_apply]
    generalize Cert.ConvReferenceIdeal.Read.val_main_v52 (F := Ideal) a w g (ix4 b s h e) = y
    rfl
  pointwise [Cert.ConvReferenceIdeal.Read.val_main_v54, Cert.ConvReferenceIdeal.Read.val_main_cst_2]
  simp only [q]
theorem k_rsq (a : FVec Ideal S4x8192x2048 .f32) (w : FVec Ideal S2048x17968 .f32) (g : FVec Ideal S5x4608 .f32) (b : Fin 4) (s : Fin 8192) (h : Fin 12) :
    Cert.ConvReferenceIdeal.Read.val_main_v58 (F := Ideal) a w g (ix4 b s h 0) = Ideal.rsqrt (Cert.ConvReferenceIdeal.Read.val_main_v55 (F := Ideal) a w g (ix4 b s h 0) + eps) := by
  pointwise [Cert.ConvReferenceIdeal.Read.val_main_v58, Cert.ConvReferenceIdeal.Read.val_main_v57, Cert.ConvReferenceIdeal.Read.val_main_v56, Cert.ConvReferenceIdeal.Read.val_main_cst_3, eps]
theorem k_col (a : FVec Ideal S4x8192x2048 .f32) (w : FVec Ideal S2048x17968 .f32) (g : FVec Ideal S5x4608 .f32) (b : Fin 4) (s : Fin 8192) (h : Fin 12) :
    Cert.ConvReferenceIdeal.Read.val_main_v55 (F := Ideal) a w g (ix4 b s h 0) = Cert.ConvReferenceIdeal.Read.val_main_v54 (F := Ideal) a w g (ix3 b s h) := by
  pointwise [Cert.ConvReferenceIdeal.Read.val_main_v55]
theorem k_mul (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v60 (F := Ideal) a w g (ix4 b s h d) = Cert.ConvReferenceIdeal.Read.val_main_v52 (F := Ideal) a w g (ix4 b s h d) * Cert.ConvReferenceIdeal.Read.val_main_v58 (F := Ideal) a w g (ix4 b s h 0) := by
  rw [Cert.ConvReferenceIdeal.Read.val_main_v60_apply, Cert.ConvReferenceIdeal.Read.val_main_v59_apply]
  generalize Cert.ConvReferenceIdeal.Read.val_main_v52 (F := Ideal) a w g = y
  generalize Cert.ConvReferenceIdeal.Read.val_main_v58 (F := Ideal) a w g = z
  refine congrArg (fun u => y (ix4 b s h d) * z u) ?_
  funext e
  fin_cases e <;> rfl

theorem v51_at (a : FVec Ideal S4x8192x2048 .f32) (w : FVec Ideal S2048x17968 .f32) (g : FVec Ideal S5x4608 .f32) (b : Fin 4) (s : Fin 8192) (h : Fin 12) (d : Fin 128) :
    Cert.ConvReferenceIdeal.Read.val_main_v51 (F := Ideal) a w g (ix4 b s h d) = Cert.ConvReferenceIdeal.Read.val_main_v49 (F := Ideal) a w g (ix4 b s h d) * sc := by
  rw [Cert.ConvReferenceIdeal.Read.val_main_v51_apply, Cert.ConvReferenceIdeal.Read.val_main_v50_apply]
  generalize Cert.ConvReferenceIdeal.Read.val_main_v49 (F := Ideal) a w g (ix4 b s h d) = y
  rfl

theorem ref_q (a : FVec Ideal S4x8192x2048 .f32) (w : FVec Ideal S2048x17968 .f32) (g : FVec Ideal S5x4608 .f32) (i : Fin 32768) (h : Fin 12) (d : Fin 128) :
    REF a w g (ix3 ⟨h, by omega⟩ i d) = Cert.ConvReferenceIdeal.Read.val_main_v51 (F := Ideal) a w g (ix4 ⟨i / 8192, by omega⟩ ⟨i % 8192, by omega⟩ h d) := by
  pointwise [Cert.ConvReferenceIdeal.Read.val_main_v65, Cert.ConvReferenceIdeal.Read.val_main_v64, Cert.ConvReferenceIdeal.Read.val_main_v63, Cert.ConvReferenceIdeal.Read.val_main_v62]
theorem ref_k (a : FVec Ideal S4x8192x2048 .f32) (w : FVec Ideal S2048x17968 .f32) (g : FVec Ideal S5x4608 .f32) (i : Fin 32768) (h : Fin 12) (d : Fin 128) :
    REF a w g (ix3 ⟨12 + h, by omega⟩ i d) = Cert.ConvReferenceIdeal.Read.val_main_v60 (F := Ideal) a w g (ix4 ⟨i / 8192, by omega⟩ ⟨i % 8192, by omega⟩ h d) := by
  pointwise [Cert.ConvReferenceIdeal.Read.val_main_v65, Cert.ConvReferenceIdeal.Read.val_main_v64, Cert.ConvReferenceIdeal.Read.val_main_v63, Cert.ConvReferenceIdeal.Read.val_main_v62]
theorem ref_v (a : FVec Ideal S4x8192x2048 .f32) (w : FVec Ideal S2048x17968 .f32) (g : FVec Ideal S5x4608 .f32) (i : Fin 32768) (h : Fin 12) (d : Fin 128) :
    REF a w g (ix3 ⟨12 + (12 + h), by omega⟩ i d) = Cert.ConvReferenceIdeal.Read.val_main_v61 (F := Ideal) a w g (ix4 ⟨i / 8192, by omega⟩ ⟨i % 8192, by omega⟩ h d) := by
  pointwise [Cert.ConvReferenceIdeal.Read.val_main_v65, Cert.ConvReferenceIdeal.Read.val_main_v64, Cert.ConvReferenceIdeal.Read.val_main_v63, Cert.ConvReferenceIdeal.Read.val_main_v62]

/-- The convolved columns of head `h` of the queries, the keys or the values, after the gate. -/
def col (a : FVec Ideal S4x8192x2048 .f32) (w : FVec Ideal S2048x17968 .f32) (g : FVec Ideal S5x4608 .f32) (b : Fin 4) (s : Fin 8192) (kind : Fin 3) (h : Fin 12) (e : Fin 128) : EReal :=
  sg (Cert.ConvReferenceIdeal.Read.val_main_v36 (F := Ideal) a w g (ix3 b s ⟨kind * 1536 + (h * 128 + e), by omega⟩))

/-- The gated columns `f` of a head of kind `kind`, normed unless they are values, and scaled if they are queries. -/
def hd (kind : ℕ) (f : Fin 128 → EReal) (d : Fin 128) : EReal :=
  f d * (if kind < 2 then Ideal.rsqrt ((∑ e, f e * f e) + eps) * (if kind = 0 then sc else 1) else 1)

theorem ref_at (a : FVec Ideal S4x8192x2048 .f32) (w : FVec Ideal S2048x17968 .f32) (g : FVec Ideal S5x4608 .f32) (i : Fin 32768) (kind : Fin 3) (h : Fin 12) (d : Fin 128) :
    REF a w g (ix3 ⟨kind * 12 + h, by omega⟩ i d) = hd kind (col a w g ⟨i / 8192, by omega⟩ ⟨i % 8192, by omega⟩ kind h) d := by
  unfold hd
  have hk : kind.val = 0 ∨ kind.val = 1 ∨ kind.val = 2 := by omega
  rcases hk with hk | hk | hk
  · have e : ∀ e : Fin 128, Cert.ConvReferenceIdeal.Read.val_main_v41 (F := Ideal) a w g (ix4 ⟨i / 8192, by omega⟩ ⟨i % 8192, by omega⟩ h e) = col a w g ⟨i / 8192, by omega⟩ ⟨i % 8192, by omega⟩ kind h e := fun e => by
      rw [v41_at, v37_at]; unfold col
      exact congrArg (fun u => sg (Cert.ConvReferenceIdeal.Read.val_main_v36 (F := Ideal) a w g (ix3 ⟨i / 8192, by omega⟩ ⟨i % 8192, by omega⟩ u))) (Fin.ext (by simp only []; omega))
    rw [if_pos (by omega), if_pos hk, show (⟨kind * 12 + h, by omega⟩ : Fin 36) = ⟨h, by omega⟩ from Fin.ext (by simp only []; omega),
      ref_q, v51_at, q_mul, q_rsq, q_col, q_sum]
    simp only [e]
    rw [mul_assoc]
  · have e : ∀ e : Fin 128, Cert.ConvReferenceIdeal.Read.val_main_v52 (F := Ideal) a w g (ix4 ⟨i / 8192, by omega⟩ ⟨i % 8192, by omega⟩ h e) = col a w g ⟨i / 8192, by omega⟩ ⟨i % 8192, by omega⟩ kind h e := fun e => by
      rw [v52_at, v37_at]; unfold col
      exact congrArg (fun u => sg (Cert.ConvReferenceIdeal.Read.val_main_v36 (F := Ideal) a w g (ix3 ⟨i / 8192, by omega⟩ ⟨i % 8192, by omega⟩ u))) (Fin.ext (by simp only []; omega))
    rw [if_pos (by omega), if_neg (by omega), show (⟨kind * 12 + h, by omega⟩ : Fin 36) = ⟨12 + h, by omega⟩ from Fin.ext (by simp only []; omega),
      ref_k, k_mul, k_rsq, k_col, k_sum]
    simp only [e]
    rw [mul_one]
  · rw [if_neg (by omega), mul_one, show (⟨kind * 12 + h, by omega⟩ : Fin 36) = ⟨12 + (12 + h), by omega⟩ from Fin.ext (by simp only []; omega),
      ref_v, v61_at, v37_at]; unfold col
    exact congrArg (fun u => sg (Cert.ConvReferenceIdeal.Read.val_main_v36 (F := Ideal) a w g (ix3 ⟨i / 8192, by omega⟩ ⟨i % 8192, by omega⟩ u))) (Fin.ext (by simp only []; omega))

/-! ## The kernel's blocks, read at an index -/

/-- The block every window holds at grid point `t`. -/
theorem idx : ∀ t : Fin cfg0.N, win0_0.index t = ![t.val / 3, 0] ∧ win0_1.index t = ![t.val / 3 * 64 - 1, 0] ∧ win0_2.index t = ![min (t.val / 3 * 64 + 64) 2047, 0]
    ∧ win0_3.index t = ![0, 3 + t.val % 3] ∧ win0_4.index t = ![0, t.val % 3] ∧ win0_5.index t = ![t.val % 3, t.val / 3, 0] :=
  (by decide +kernel : ∀ t : Fin grid0.N, _)

theorem x_at (c : Dev nD) (n : Fin cfg0.N) (i : Fin 1024) (k : Fin 2048) :
    iblk m c 0 n (ix2 i k) = m ((c : Thread nD τ).loc main_arg0) (ix3 ⟨n.val / 24, by have := n.isLt; change n.val < 96 at this; omega⟩ ⟨n.val / 3 % 8 * 1024 + i, by omega⟩ k) := by
  have hn := n.isLt; change n.val < 96 at hn
  blk_point [iblk, idx n]
theorem ap_at (c : Dev nD) (n : Fin cfg0.N) (h : n.val / 3 % 8 ≠ 0) (i : Fin 16) (k : Fin 2048) :
    iblk m c 1 n (ix2 i k) = m ((c : Thread nD τ).loc main_arg0) (ix3 ⟨n.val / 24, by have := n.isLt; change n.val < 96 at this; omega⟩ ⟨n.val / 3 % 8 * 1024 + i - 16, by omega⟩ k) := by
  have hn := n.isLt; change n.val < 96 at hn
  blk_point [iblk, idx n]
theorem an_at (c : Dev nD) (n : Fin cfg0.N) (h : n.val / 3 % 8 ≠ 7) (i : Fin 16) (k : Fin 2048) :
    iblk m c 2 n (ix2 i k) = m ((c : Thread nD τ).loc main_arg0) (ix3 ⟨n.val / 24, by have := n.isLt; change n.val < 96 at this; omega⟩ ⟨n.val / 3 % 8 * 1024 + 1024 + i, by omega⟩ k) := by
  have hn := n.isLt; change n.val < 96 at hn
  blk_point [iblk, idx n]
theorem w_at (c : Dev nD) (n : Fin cfg0.N) (k : Fin 2048) (j : Fin 1536) :
    X0_3 m c n (ix2 k j) = m ((c : Thread nD τ).loc main_arg1) (ix2 k ⟨4608 + (n.val % 3 * 1536 + j), by omega⟩) := by
  unfold X0_3 Pipeline.Window.fill
  rw [dif_pos (moved0_3 n _)]
  blk_point [iblk, idx n]
theorem g_at (c : Dev nD) (n : Fin cfg0.N) (t : Fin 5) (j : Fin 1536) :
    iblk m c 4 n (ix2 t j) = m ((c : Thread nD τ).loc main_arg2) (ix2 t ⟨n.val % 3 * 1536 + j, by omega⟩) := by
  blk_point [iblk, idx n]

/-! ## The three choices the kernel makes by grid point -/

/-- The place of a block of rows in its sequence, as the kernel computes it. -/
def place (arg0 : BitVec 32) : BitVec 32 :=
  let v12 : BitVec 1 := Scalar.cmpi .eq 8#32 0#32
  let v13 : BitVec 32 := Scalar.select v12 1#32 8#32
  let v14 : BitVec 32 := Scalar.remsi arg0 v13
  let v15 : BitVec 1 := Scalar.cmpi .ne v14 0#32
  let v16 : BitVec 1 := Scalar.cmpi .slt v14 0#32
  let v17 : BitVec 1 := Scalar.cmpi .slt v13 0#32
  let v18 : BitVec 1 := Scalar.xori v16 v17
  let v19 : BitVec 1 := Scalar.andi v18 v15
  let v20 : BitVec 32 := Scalar.addi v14 v13
  Scalar.select v19 v20 v14

theorem choices : ∀ t : Fin cfg0.N, Scalar.cmpi .eq (place (BitVec.ofNat 32 (grid0.coords t 0).val)) 7#32 = (if t.val / 3 % 8 = 7 then 1#1 else 0#1)
    ∧ Scalar.cmpi .eq (place (BitVec.ofNat 32 (grid0.coords t 0).val)) 0#32 = (if t.val / 3 % 8 = 0 then 1#1 else 0#1)
    ∧ Scalar.cmpi .eq (BitVec.ofNat 32 (grid0.coords t 1).val) 0#32 = (if t.val % 3 = 0 then 1#1 else 0#1)
    ∧ Scalar.cmpi .slt (BitVec.ofNat 32 (grid0.coords t 1).val) 2#32 = (if t.val % 3 < 2 then 1#1 else 0#1) :=
  (by decide +kernel : ∀ t : Fin grid0.N, _)

theorem sel (P : Prop) [Decidable P] (x y : EReal) : Scalar.select (if P then 1#1 else 0#1) x y = if P then x else y := by
  split <;> rfl

theorem keep_next (n : Fin cfg0.N) : k0_pay2 (F := Ideal) (grid0.coords n) = (if n.val / 3 % 8 = 7 then (0 : EReal) else 1) := by
  have e : k0_pay2 (F := Ideal) (grid0.coords n) = Scalar.select (Scalar.cmpi .eq (place (BitVec.ofNat 32 (grid0.coords n 0).val)) 7#32) (Ideal.ofBits .f32 0x00000000#32) (Ideal.ofBits .f32 0x3F800000#32) := rfl
  rw [e, (choices n).1, sel, Ideal.ofBits_zero_f32, Ideal.ofBits_one_f32]
theorem keep_prev (n : Fin cfg0.N) (r : Fin 16) (j : Fin 1536) : k0_pay6 (F := Ideal) (grid0.coords n) (ix2 r j) = (if n.val / 3 % 8 = 0 then (0 : EReal) else 1) := by
  have e : k0_pay6 (F := Ideal) (grid0.coords n) (ix2 r j) = Scalar.select (Scalar.cmpi .eq (place (BitVec.ofNat 32 (grid0.coords n 0).val)) 0#32) (Ideal.ofBits .f32 0x00000000#32) (Ideal.ofBits .f32 0x3F800000#32) := rfl
  rw [e, (choices n).2.1, sel, Ideal.ofBits_zero_f32, Ideal.ofBits_one_f32]
theorem scale_at (n : Fin cfg0.N) : k0_pay3 (F := Ideal) (grid0.coords n) = (if n.val % 3 = 0 then sc else 1) := by
  have e : k0_pay3 (F := Ideal) (grid0.coords n) = Scalar.select (Scalar.cmpi .eq (BitVec.ofNat 32 (grid0.coords n 1).val) 0#32) sc (Ideal.ofBits .f32 0x3F800000#32) := rfl
  rw [e, (choices n).2.2.1, sel, Ideal.ofBits_one_f32]

/-! ## The scratch: the projected rows with two rows more at each end -/

theorem pay9_at (v : EReal) (w : FVec Ideal S2048x1536 .bf16) (x : FVec Ideal S16x2048 .bf16) (r : Fin 16) (j : Fin 1536) :
    k0_pay9 (F := Ideal) v (k0_pay4 (F := Ideal) w) x (ix2 r j) = (∑ k, x (ix2 r k) * w (ix2 k j)) * v := by
  pointwise [k0_pay9, k0_pay4]
theorem pay8_at (w : FVec Ideal S2048x1536 .bf16) (x : FVec Ideal S1024x2048 .bf16) (r : Fin 1024) (j : Fin 1536) :
    k0_pay8 (F := Ideal) (k0_pay4 (F := Ideal) w) x (ix2 r j) = ∑ k, x (ix2 r k) * w (ix2 k j) := by
  pointwise [k0_pay8, k0_pay4]
theorem pay7_at (w : FVec Ideal S2048x1536 .bf16) (x : FVec Ideal S16x2048 .bf16) (v : FVec Ideal S16x1536 .f32) (r : Fin 16) (j : Fin 1536) :
    k0_pay7 (F := Ideal) (k0_pay5 (F := Ideal) w x) v (ix2 r j) = (∑ k, x (ix2 r k) * w (ix2 k j)) * v (ix2 r j) := by
  pointwise [k0_pay7, k0_pay5, k0_pay4]

theorem next_at (c : Dev nD) (n : Fin cfg0.N) (r : Fin 16) (j : Fin 1536) (S : Fin 8196) (hr : r.val < 2) (hS : S.val = n.val / 3 % 8 * 1024 + 1026 + r) :
    k0_pay9 (F := Ideal) (k0_pay2 (F := Ideal) (grid0.coords n)) (k0_pay4 (F := Ideal) (X0_3 m c n)) (iblk m c 2 n) (ix2 r j)
      = Cert.ConvReferenceIdeal.Read.val_main_v2 (F := Ideal) (m ((c : Thread nD τ).loc main_arg0)) (m ((c : Thread nD τ).loc main_arg1)) (ix3 ⟨n.val / 24, by have := n.isLt; change n.val < 96 at this; omega⟩ S ⟨n.val % 3 * 1536 + j, by omega⟩) := by
  refine (pay9_at _ _ _ r j).trans ?_
  rw [keep_next]
  rcases eq_or_ne (n.val / 3 % 8) 7 with h | h
  · rw [if_pos h, mul_zero, v2_out _ _ _ _ _ (Or.inr (by omega))]
  · rw [if_neg h, mul_one, v2_in _ _ _ _ _ (by omega) (by omega)]
    refine Finset.sum_congr rfl fun k _ => congrArg₂ (· * ·) ((an_at m c n h r k).trans ?_) (w_at m c n k j)
    exact congrArg (fun u => m ((c : Thread nD τ).loc main_arg0) (ix3 ⟨n.val / 24, by have := n.isLt; change n.val < 96 at this; omega⟩ u k)) (Fin.ext (by simp only []; omega))
theorem mid_at (c : Dev nD) (n : Fin cfg0.N) (r : Fin 1024) (j : Fin 1536) (S : Fin 8196) (hS : S.val = n.val / 3 % 8 * 1024 + 2 + r) :
    k0_pay8 (F := Ideal) (k0_pay4 (F := Ideal) (X0_3 m c n)) (iblk m c 0 n) (ix2 r j)
      = Cert.ConvReferenceIdeal.Read.val_main_v2 (F := Ideal) (m ((c : Thread nD τ).loc main_arg0)) (m ((c : Thread nD τ).loc main_arg1)) (ix3 ⟨n.val / 24, by have := n.isLt; change n.val < 96 at this; omega⟩ S ⟨n.val % 3 * 1536 + j, by omega⟩) := by
  refine (pay8_at _ _ r j).trans ?_
  rw [v2_in _ _ _ _ _ (by omega) (by omega)]
  refine Finset.sum_congr rfl fun k _ => congrArg₂ (· * ·) ((x_at m c n r k).trans ?_) (w_at m c n k j)
  exact congrArg (fun u => m ((c : Thread nD τ).loc main_arg0) (ix3 ⟨n.val / 24, by have := n.isLt; change n.val < 96 at this; omega⟩ u k)) (Fin.ext (by simp only []; omega))
theorem prev_at (c : Dev nD) (n : Fin cfg0.N) (r : Fin 16) (j : Fin 1536) (S : Fin 8196) (hr : 14 ≤ r.val) (hS : S.val = n.val / 3 % 8 * 1024 + r - 14) :
    k0_pay7 (F := Ideal) (k0_pay5 (F := Ideal) (X0_3 m c n) (iblk m c 1 n)) (k0_pay6 (F := Ideal) (grid0.coords n)) (ix2 r j)
      = Cert.ConvReferenceIdeal.Read.val_main_v2 (F := Ideal) (m ((c : Thread nD τ).loc main_arg0)) (m ((c : Thread nD τ).loc main_arg1)) (ix3 ⟨n.val / 24, by have := n.isLt; change n.val < 96 at this; omega⟩ S ⟨n.val % 3 * 1536 + j, by omega⟩) := by
  refine (pay7_at _ _ _ r j).trans ?_
  rw [keep_prev]
  rcases eq_or_ne (n.val / 3 % 8) 0 with h | h
  · rw [if_pos h, mul_zero, v2_out _ _ _ _ _ (Or.inl (by omega))]
  · rw [if_neg h, mul_one, v2_in _ _ _ _ _ (by omega) (by omega)]
    refine Finset.sum_congr rfl fun k _ => congrArg₂ (· * ·) ((ap_at m c n h r k).trans ?_) (w_at m c n k j)
    exact congrArg (fun u => m ((c : Thread nD τ).loc main_arg0) (ix3 ⟨n.val / 24, by have := n.isLt; change n.val < 96 at this; omega⟩ u k)) (Fin.ext (by simp only []; omega))

/-- The scratch after the body's three stores. -/
abbrev scr (c : Dev nD) (n : Fin cfg0.N) : List (View.Piece (Elt Ideal) S1056x1536 .f32) :=
  [⟨Rect.unit ![1040, 0] ![16, 1536] inb_S1056x1536_S16x1536_1040_0, k0_pay9 (F := Ideal) (k0_pay2 (F := Ideal) (grid0.coords n)) (k0_pay4 (F := Ideal) (X0_3 m c n)) (iblk m c 2 n)⟩,
   ⟨Rect.unit ![16, 0] ![1024, 1536] inb_S1056x1536_S1024x1536_16_0, k0_pay8 (F := Ideal) (k0_pay4 (F := Ideal) (X0_3 m c n)) (iblk m c 0 n)⟩,
   ⟨Rect.unit ![0, 0] ![16, 1536] inb_S1056x1536_S16x1536_0_0, k0_pay7 (F := Ideal) (k0_pay5 (F := Ideal) (X0_3 m c n) (iblk m c 1 n)) (k0_pay6 (F := Ideal) (grid0.coords n))⟩]

/-- The 128 columns of the scratch from column `o`. -/
abbrev rows (c : Dev nD) (n : Fin cfg0.N) (o : ℕ) (inb : ∀ a, (![0, o] : Fin 2 → Nat) a + S1056x128.size a ≤ S1056x1536.size a) : FVec Ideal S1056x128 .f32 :=
  (View.whole cc0_scratch0).readCov (scr m c n) (Rect.unit (s := S1056x1536) ![0, o] S1056x128.size inb).toLoadRect
/-- The weights of tap `t` for the 128 columns from column `o`. -/
abbrev wts (c : Dev nD) (n : Fin cfg0.N) (t o : ℕ) (inb : ∀ a, (![t, o] : Fin 2 → Nat) a + S1x128.size a ≤ S5x1536.size a) : FVec Ideal S1x128 .f32 :=
  View.ld (iblk m c 4 n) (Rect.unit (s := S5x1536) ![t, o] S1x128.size inb)

theorem mem (y : S1056x1536.Idx) (o l : ℕ) (inb : ∀ a, (![o, 0] : Fin 2 → Nat) a + (![l, 1536] : Fin 2 → Nat) a ≤ S1056x1536.size a) (h : o ≤ (y 0).val) (h' : (y 0).val < o + l) :
    y ∈ (Rect.unit (s := S1056x1536) ![o, 0] ![l, 1536] inb).set :=
  Rect.mem_set_unit.2 (Fin.forall_fin_two.mpr ⟨⟨h, h'⟩, Nat.zero_le _, by
    show (y 1).val < 0 + 1536
    have := (y 1).isLt
    change (y 1).val < 1536 at this
    omega⟩)

theorem scr_at (c : Dev nD) (n : Fin cfg0.N) (y : S1056x1536.Idx) (S : Fin 8196) (J : Fin 4608) (hs : 14 ≤ (y 0).val) (hs' : (y 0).val < 1042)
    (hS : S.val = n.val / 3 % 8 * 1024 + (y 0).val - 14) (hJ : J.val = n.val % 3 * 1536 + (y 1).val) :
    View.canon (scr m c n) y = Cert.ConvReferenceIdeal.Read.val_main_v2 (F := Ideal) (m ((c : Thread nD τ).loc main_arg0)) (m ((c : Thread nD τ).loc main_arg1)) (ix3 ⟨n.val / 24, by have := n.isLt; change n.val < 96 at this; omega⟩ S J) := by
  have hc : ∃ p ∈ scr m c n, y ∈ p.1.set := by
    unfold scr
    rcases (by omega : 1040 ≤ (y 0).val ∨ (16 ≤ (y 0).val ∧ (y 0).val < 1040) ∨ (y 0).val < 16) with k | k | k
    · exact ⟨_, .head _, mem y 1040 16 inb_S1056x1536_S16x1536_1040_0 (by omega) (by omega)⟩
    · exact ⟨_, .tail _ (.head _), mem y 16 1024 inb_S1056x1536_S1024x1536_16_0 (by omega) (by omega)⟩
    · exact ⟨_, .tail _ (.tail _ (.head _)), mem y 0 16 inb_S1056x1536_S16x1536_0_0 (by omega) (by omega)⟩
  unfold scr at hc ⊢
  canon_tiles x h using hc
  · refine (congrArg _ (ValueIdx.eq_ix2 x)).trans ((next_at m c n (x 0) (x 1) S (by omega) (by omega)).trans ?_)
    exact congrArg (fun u => Cert.ConvReferenceIdeal.Read.val_main_v2 (F := Ideal) (m ((c : Thread nD τ).loc main_arg0)) (m ((c : Thread nD τ).loc main_arg1)) (ix3 ⟨n.val / 24, by have := n.isLt; change n.val < 96 at this; omega⟩ S u)) (Fin.ext (by simp only []; omega))
  · refine (congrArg _ (ValueIdx.eq_ix2 x)).trans ((mid_at m c n (x 0) (x 1) S (by omega)).trans ?_)
    exact congrArg (fun u => Cert.ConvReferenceIdeal.Read.val_main_v2 (F := Ideal) (m ((c : Thread nD τ).loc main_arg0)) (m ((c : Thread nD τ).loc main_arg1)) (ix3 ⟨n.val / 24, by have := n.isLt; change n.val < 96 at this; omega⟩ S u)) (Fin.ext (by simp only []; omega))
  · refine (congrArg _ (ValueIdx.eq_ix2 x)).trans ((prev_at m c n (x 0) (x 1) S (by omega) (by omega)).trans ?_)
    exact congrArg (fun u => Cert.ConvReferenceIdeal.Read.val_main_v2 (F := Ideal) (m ((c : Thread nD τ).loc main_arg0)) (m ((c : Thread nD τ).loc main_arg1)) (ix3 ⟨n.val / 24, by have := n.isLt; change n.val < 96 at this; omega⟩ S u)) (Fin.ext (by simp only []; omega))

theorem rows_at (c : Dev nD) (n : Fin cfg0.N) (o : ℕ) (inb : ∀ a, (![0, o] : Fin 2 → Nat) a + S1056x128.size a ≤ S1056x1536.size a)
    (r : Fin 1056) (e : Fin 128) (S : Fin 8196) (J : Fin 4608) (hs : 14 ≤ r.val) (hs' : r.val < 1042)
    (hS : S.val = n.val / 3 % 8 * 1024 + r.val - 14) (hJ : J.val = n.val % 3 * 1536 + (o + e.val)) :
    rows m c n o inb (ix2 r e) = Cert.ConvReferenceIdeal.Read.val_main_v2 (F := Ideal) (m ((c : Thread nD τ).loc main_arg0)) (m ((c : Thread nD τ).loc main_arg1)) (ix3 ⟨n.val / 24, by have := n.isLt; change n.val < 96 at this; omega⟩ S J) := by
  unfold rows
  rw [View.readCov_eq_canon']
  have e0 : (((Rect.unit (s := S1056x1536) ![0, o] S1056x128.size inb).toLoadRect.idx (ix2 r e)) 0).val = r.val := by
    show 0 + 1 * r.val = r.val
    omega
  have e1 : (((Rect.unit (s := S1056x1536) ![0, o] S1056x128.size inb).toLoadRect.idx (ix2 r e)) 1).val = o + e.val := by
    show o + 1 * e.val = o + e.val
    omega
  exact scr_at m c n _ S J (by rw [e0]; exact hs) (by rw [e0]; exact hs') (by rw [e0]; exact hS) (by rw [e1]; exact hJ)
theorem wts_at (c : Dev nD) (n : Fin cfg0.N) (t o : ℕ) (inb : ∀ a, (![t, o] : Fin 2 → Nat) a + S1x128.size a ≤ S5x1536.size a)
    (ht : t < 5) (e : Fin 128) (J : Fin 4608) (hJ : J.val = n.val % 3 * 1536 + (o + e.val)) :
    wts m c n t o inb (ix2 0 e) = m ((c : Thread nD τ).loc main_arg2) (ix2 ⟨t, ht⟩ J) := by
  have ho : o + 128 ≤ 1536 := inb 1
  have ei : (Rect.unit (s := S5x1536) ![t, o] S1x128.size inb).toLoadRect.idx (ix2 0 e) = ix2 ⟨t, ht⟩ ⟨o + e, by omega⟩ := by
    funext a
    refine Fin.ext ?_
    fin_cases a
    · show t + 1 * 0 = t
      omega
    · show o + 1 * e.val = o + e.val
      omega
  refine (congrArg (iblk m c 4 n) ei).trans ((g_at m c n ⟨t, ht⟩ ⟨o + e, by omega⟩).trans ?_)
  exact congrArg (fun u => m ((c : Thread nD τ).loc main_arg2) (ix2 ⟨t, ht⟩ u)) (Fin.ext hJ.symm)

/-! ## One head -/

/-- The five taps of a column, as the kernel adds them. -/
def taps (x : FVec Ideal S1056x128 .f32) (w2 w0 w1 w3 w4 : FVec Ideal S1x128 .f32) (i : Fin 1024) (e : Fin 128) : EReal :=
  x (ix2 ⟨16 + i, by omega⟩ e) * w2 (ix2 0 e) + x (ix2 ⟨(16 + i + 1056 - 2) % 1056, by omega⟩ e) * w0 (ix2 0 e) + x (ix2 ⟨(16 + i + 1056 - 1) % 1056, by omega⟩ e) * w1 (ix2 0 e)
      + x (ix2 ⟨(16 + i + 1056 - 1055) % 1056, by omega⟩ e) * w3 (ix2 0 e) + x (ix2 ⟨(16 + i + 1056 - 1054) % 1056, by omega⟩ e) * w4 (ix2 0 e)

/-- Five numbers added in the order of the kernel. -/
theorem five (p q r s t : EReal) : r + p + q + s + t = p + q + r + s + t := by
  ac_rfl

theorem pay_at (k : BitVec 32) (q : EReal) (x : FVec Ideal S1056x128 .f32) (w2 w0 w1 w3 w4 : FVec Ideal S1x128 .f32) (i : Fin 1024) (d : Fin 128) :
    k0_pay20 (F := Ideal) (k0_pay19 (F := Ideal) k q x w2 w0 w1 w3 w4) (ix3 0 i d)
      = sg (taps x w2 w0 w1 w3 w4 i d) * Scalar.select (Scalar.cmpi .slt k 2#32)
          (Ideal.rsqrt ((∑ e, sg (taps x w2 w0 w1 w3 w4 i e) * sg (taps x w2 w0 w1 w3 w4 i e)) + eps) * q) 1 := by
  pointwise [k0_pay20, k0_pay19]
  rfl

theorem point (c : Dev nD) (n : Fin cfg0.N) (h : Fin 12) (x : FVec Ideal S1056x128 .f32) (w2 w0 w1 w3 w4 : FVec Ideal S1x128 .f32)
    (hx : ∀ (r : Fin 1056) (e : Fin 128) (S : Fin 8196) (J : Fin 4608), 14 ≤ r.val → r.val < 1042 → S.val = n.val / 3 % 8 * 1024 + r - 14 → J.val = n.val % 3 * 1536 + (h * 128 + e)
      → x (ix2 r e) = Cert.ConvReferenceIdeal.Read.val_main_v2 (F := Ideal) (m ((c : Thread nD τ).loc main_arg0)) (m ((c : Thread nD τ).loc main_arg1)) (ix3 ⟨n.val / 24, by have := n.isLt; change n.val < 96 at this; omega⟩ S J))
    (h0 : ∀ e : Fin 128, w0 (ix2 0 e) = m ((c : Thread nD τ).loc main_arg2) (ix2 0 ⟨n.val % 3 * 1536 + (h * 128 + e), by omega⟩))
    (h1 : ∀ e : Fin 128, w1 (ix2 0 e) = m ((c : Thread nD τ).loc main_arg2) (ix2 1 ⟨n.val % 3 * 1536 + (h * 128 + e), by omega⟩))
    (h2 : ∀ e : Fin 128, w2 (ix2 0 e) = m ((c : Thread nD τ).loc main_arg2) (ix2 2 ⟨n.val % 3 * 1536 + (h * 128 + e), by omega⟩))
    (h3 : ∀ e : Fin 128, w3 (ix2 0 e) = m ((c : Thread nD τ).loc main_arg2) (ix2 3 ⟨n.val % 3 * 1536 + (h * 128 + e), by omega⟩))
    (h4 : ∀ e : Fin 128, w4 (ix2 0 e) = m ((c : Thread nD τ).loc main_arg2) (ix2 4 ⟨n.val % 3 * 1536 + (h * 128 + e), by omega⟩))
    (z : Fin 1) (i : Fin 1024) (d : Fin 128) (H : Fin 36) (I : Fin 32768) (E : Fin 128) (hH : H.val = n.val % 3 * 12 + h) (hI : I.val = n.val / 3 * 1024 + i) (hE : E.val = d) :
    k0_pay20 (F := Ideal) (k0_pay19 (F := Ideal) (BitVec.ofNat 32 (grid0.coords n 1).val) (k0_pay3 (F := Ideal) (grid0.coords n)) x w2 w0 w1 w3 w4) (ix3 z i d)
      = REF (m ((c : Thread nD τ).loc main_arg0)) (m ((c : Thread nD τ).loc main_arg1)) (m ((c : Thread nD τ).loc main_arg2)) (ix3 H I E) := by
  have hn := n.isLt; change n.val < 96 at hn
  rw [show z = 0 from Subsingleton.elim _ _, show E = d from Fin.ext hE, show H = ⟨(⟨n.val % 3, by omega⟩ : Fin 3) * 12 + h, by simp only []; omega⟩ from Fin.ext hH, ref_at]
  have t : ∀ e : Fin 128, sg (taps x w2 w0 w1 w3 w4 i e) = col (m ((c : Thread nD τ).loc main_arg0)) (m ((c : Thread nD τ).loc main_arg1)) (m ((c : Thread nD τ).loc main_arg2)) ⟨I / 8192, by omega⟩ ⟨I % 8192, by omega⟩ ⟨n.val % 3, by omega⟩ h e := fun e => by
    unfold col
    refine congrArg sg ?_
    rw [v36_at, show (⟨I / 8192, by omega⟩ : Fin 4) = ⟨n.val / 24, by have := n.isLt; change n.val < 96 at this; omega⟩ from Fin.ext (by simp only []; omega)]
    unfold taps
    rw [h0, h1, h2, h3, h4,
      hx _ e ⟨2 + I % 8192, by omega⟩ ⟨n.val % 3 * 1536 + (h * 128 + e), by omega⟩ (by simp only []; omega) (by simp only []; omega) (by simp only []; omega) rfl,
      hx _ e ⟨I % 8192, by omega⟩ ⟨n.val % 3 * 1536 + (h * 128 + e), by omega⟩ (by simp only []; omega) (by simp only []; omega) (by simp only []; omega) rfl,
      hx _ e ⟨1 + I % 8192, by omega⟩ ⟨n.val % 3 * 1536 + (h * 128 + e), by omega⟩ (by simp only []; omega) (by simp only []; omega) (by simp only []; omega) rfl,
      hx _ e ⟨3 + I % 8192, by omega⟩ ⟨n.val % 3 * 1536 + (h * 128 + e), by omega⟩ (by simp only []; omega) (by simp only []; omega) (by simp only []; omega) rfl,
      hx _ e ⟨4 + I % 8192, by omega⟩ ⟨n.val % 3 * 1536 + (h * 128 + e), by omega⟩ (by simp only []; omega) (by simp only []; omega) (by simp only []; omega) rfl]
    exact five _ _ _ _ _
  refine (pay_at _ _ x w2 w0 w1 w3 w4 i d).trans ?_
  rw [scale_at, (choices n).2.2.2, sel]
  simp only [t]
  rfl

/-- A head's store, read at an index. -/
theorem head (c : Dev nD) (n : Fin cfg0.N) (h : Fin 12) (o : ℕ) (ho : o = 128 * h.val) (ix : ∀ a, (![0, o] : Fin 2 → Nat) a + S1056x128.size a ≤ S1056x1536.size a)
    (i2 : ∀ a, (![2, o] : Fin 2 → Nat) a + S1x128.size a ≤ S5x1536.size a) (i0 : ∀ a, (![0, o] : Fin 2 → Nat) a + S1x128.size a ≤ S5x1536.size a) (i1 : ∀ a, (![1, o] : Fin 2 → Nat) a + S1x128.size a ≤ S5x1536.size a) (i3 : ∀ a, (![3, o] : Fin 2 → Nat) a + S1x128.size a ≤ S5x1536.size a) (i4 : ∀ a, (![4, o] : Fin 2 → Nat) a + S1x128.size a ≤ S5x1536.size a)
    (z : Fin 1) (i : Fin 1024) (d : Fin 128) (H : Fin 36) (I : Fin 32768) (E : Fin 128) (hH : H.val = n.val % 3 * 12 + h) (hI : I.val = n.val / 3 * 1024 + i) (hE : E.val = d) :
    k0_pay20 (F := Ideal) (k0_pay19 (F := Ideal) (BitVec.ofNat 32 (grid0.coords n 1).val) (k0_pay3 (F := Ideal) (grid0.coords n)) (rows m c n o ix) (wts m c n 2 o i2) (wts m c n 0 o i0) (wts m c n 1 o i1) (wts m c n 3 o i3) (wts m c n 4 o i4)) (ix3 z i d)
      = REF (m ((c : Thread nD τ).loc main_arg0)) (m ((c : Thread nD τ).loc main_arg1)) (m ((c : Thread nD τ).loc main_arg2)) (ix3 H I E) := by
  exact point m c n h _ _ _ _ _ _ (fun r e S J a1 a2 a3 a4 => rows_at m c n o ix r e S J a1 a2 a3 (by omega))
    (fun e => wts_at m c n 0 o i0 (by omega) e _ (by simp only []; omega)) (fun e => wts_at m c n 1 o i1 (by omega) e _ (by simp only []; omega)) (fun e => wts_at m c n 2 o i2 (by omega) e _ (by simp only []; omega)) (fun e => wts_at m c n 3 o i3 (by omega) e _ (by simp only []; omega)) (fun e => wts_at m c n 4 o i4 (by omega) e _ (by simp only []; omega)) z i d H I E hH hI hE

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun n _ y => ?_
  blk_simp
  rw [after0_5]; unfold outsAt0 out0_A_5; frame_out
  obtain_idx I : S36x32768x128 := [n.val % 3 * 12 + (y 0 : ℕ), n.val / 3 * 1024 + (y 1 : ℕ), (y 2 : ℕ)] with hI
  refine Eq.trans (b := REF (m ((c : Thread nD τ).loc main_arg0)) (m ((c : Thread nD τ).loc main_arg1)) (m ((c : Thread nD τ).loc main_arg2)) I) ?_ (congrArg (REF _ _ _) ?_)
  · refine Eq.trans ?_ (congrArg (REF (m ((c : Thread nD τ).loc main_arg0)) (m ((c : Thread nD τ).loc main_arg1)) (m ((c : Thread nD τ).loc main_arg2))) (ValueIdx.eq_ix3 I)).symm
    canon_tiles x h
    · refine (show _ = k0_pay20 (F := Ideal) (k0_pay19 (F := Ideal) (BitVec.ofNat 32 (grid0.coords n 1).val) (k0_pay3 (F := Ideal) (grid0.coords n)) (rows m c n 1408 inb_S1056x1536_S1056x128_0_1408)
        (wts m c n 2 1408 inb_S5x1536_S1x128_2_1408) (wts m c n 0 1408 inb_S5x1536_S1x128_0_1408) (wts m c n 1 1408 inb_S5x1536_S1x128_1_1408) (wts m c n 3 1408 inb_S5x1536_S1x128_3_1408) (wts m c n 4 1408 inb_S5x1536_S1x128_4_1408)) x from rfl).trans ?_
      exact (congrArg _ (ValueIdx.eq_ix3 x)).trans (head m c n 11 1408 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 1280 inb_S1056x1536_S1056x128_0_1280)
        (wts m c n 2 1280 inb_S5x1536_S1x128_2_1280) (wts m c n 0 1280 inb_S5x1536_S1x128_0_1280) (wts m c n 1 1280 inb_S5x1536_S1x128_1_1280) (wts m c n 3 1280 inb_S5x1536_S1x128_3_1280) (wts m c n 4 1280 inb_S5x1536_S1x128_4_1280)) x from rfl).trans ?_
      exact (congrArg _ (ValueIdx.eq_ix3 x)).trans (head m c n 10 1280 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 1152 inb_S1056x1536_S1056x128_0_1152)
        (wts m c n 2 1152 inb_S5x1536_S1x128_2_1152) (wts m c n 0 1152 inb_S5x1536_S1x128_0_1152) (wts m c n 1 1152 inb_S5x1536_S1x128_1_1152) (wts m c n 3 1152 inb_S5x1536_S1x128_3_1152) (wts m c n 4 1152 inb_S5x1536_S1x128_4_1152)) x from rfl).trans ?_
      exact (congrArg _ (ValueIdx.eq_ix3 x)).trans (head m c n 9 1152 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 1024 inb_S1056x1536_S1056x128_0_1024)
        (wts m c n 2 1024 inb_S5x1536_S1x128_2_1024) (wts m c n 0 1024 inb_S5x1536_S1x128_0_1024) (wts m c n 1 1024 inb_S5x1536_S1x128_1_1024) (wts m c n 3 1024 inb_S5x1536_S1x128_3_1024) (wts m c n 4 1024 inb_S5x1536_S1x128_4_1024)) x from rfl).trans ?_
      exact (congrArg _ (ValueIdx.eq_ix3 x)).trans (head m c n 8 1024 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 896 inb_S1056x1536_S1056x128_0_896)
        (wts m c n 2 896 inb_S5x1536_S1x128_2_896) (wts m c n 0 896 inb_S5x1536_S1x128_0_896) (wts m c n 1 896 inb_S5x1536_S1x128_1_896) (wts m c n 3 896 inb_S5x1536_S1x128_3_896) (wts m c n 4 896 inb_S5x1536_S1x128_4_896)) x from rfl).trans ?_
      exact (congrArg _ (ValueIdx.eq_ix3 x)).trans (head m c n 7 896 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 768 inb_S1056x1536_S1056x128_0_768)
        (wts m c n 2 768 inb_S5x1536_S1x128_2_768) (wts m c n 0 768 inb_S5x1536_S1x128_0_768) (wts m c n 1 768 inb_S5x1536_S1x128_1_768) (wts m c n 3 768 inb_S5x1536_S1x128_3_768) (wts m c n 4 768 inb_S5x1536_S1x128_4_768)) x from rfl).trans ?_
      exact (congrArg _ (ValueIdx.eq_ix3 x)).trans (head m c n 6 768 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 640 inb_S1056x1536_S1056x128_0_640)
        (wts m c n 2 640 inb_S5x1536_S1x128_2_640) (wts m c n 0 640 inb_S5x1536_S1x128_0_640) (wts m c n 1 640 inb_S5x1536_S1x128_1_640) (wts m c n 3 640 inb_S5x1536_S1x128_3_640) (wts m c n 4 640 inb_S5x1536_S1x128_4_640)) x from rfl).trans ?_
      exact (congrArg _ (ValueIdx.eq_ix3 x)).trans (head m c n 5 640 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 512 inb_S1056x1536_S1056x128_0_512)
        (wts m c n 2 512 inb_S5x1536_S1x128_2_512) (wts m c n 0 512 inb_S5x1536_S1x128_0_512) (wts m c n 1 512 inb_S5x1536_S1x128_1_512) (wts m c n 3 512 inb_S5x1536_S1x128_3_512) (wts m c n 4 512 inb_S5x1536_S1x128_4_512)) x from rfl).trans ?_
      exact (congrArg _ (ValueIdx.eq_ix3 x)).trans (head m c n 4 512 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 384 inb_S1056x1536_S1056x128_0_384)
        (wts m c n 2 384 inb_S5x1536_S1x128_2_384) (wts m c n 0 384 inb_S5x1536_S1x128_0_384) (wts m c n 1 384 inb_S5x1536_S1x128_1_384) (wts m c n 3 384 inb_S5x1536_S1x128_3_384) (wts m c n 4 384 inb_S5x1536_S1x128_4_384)) x from rfl).trans ?_
      exact (congrArg _ (ValueIdx.eq_ix3 x)).trans (head m c n 3 384 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 256 inb_S1056x1536_S1056x128_0_256)
        (wts m c n 2 256 inb_S5x1536_S1x128_2_256) (wts m c n 0 256 inb_S5x1536_S1x128_0_256) (wts m c n 1 256 inb_S5x1536_S1x128_1_256) (wts m c n 3 256 inb_S5x1536_S1x128_3_256) (wts m c n 4 256 inb_S5x1536_S1x128_4_256)) x from rfl).trans ?_
      exact (congrArg _ (ValueIdx.eq_ix3 x)).trans (head m c n 2 256 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 128 inb_S1056x1536_S1056x128_0_128)
        (wts m c n 2 128 inb_S5x1536_S1x128_2_128) (wts m c n 0 128 inb_S5x1536_S1x128_0_128) (wts m c n 1 128 inb_S5x1536_S1x128_1_128) (wts m c n 3 128 inb_S5x1536_S1x128_3_128) (wts m c n 4 128 inb_S5x1536_S1x128_4_128)) x from rfl).trans ?_
      exact (congrArg _ (ValueIdx.eq_ix3 x)).trans (head m c n 1 128 rfl _ _ _ _ _ _ (x 0) (x 1) (x 2) (I 0) (I 1) (I 2) (by omega) (by omega) (by omega))
    · refine (show _ = k0_pay20 (F := Ideal) (k0_pay19 (F := Ideal) (BitVec.ofNat 32 (grid0.coords n 1).val) (k0_pay3 (F := Ideal) (grid0.coords n)) (rows m c n 0 inb_S1056x1536_S1056x128_0_0)
        (wts m c n 2 0 inb_S5x1536_S1x128_2_0) (wts m c n 0 0 inb_S5x1536_S1x128_0_0) (wts m c n 1 0 inb_S5x1536_S1x128_1_0) (wts m c n 3 0 inb_S5x1536_S1x128_3_0) (wts m c n 4 0 inb_S5x1536_S1x128_4_0)) x from rfl).trans ?_
      exact (congrArg _ (ValueIdx.eq_ix3 x)).trans (head m c n 0 0 rfl _ _ _ _ _ _ (x 0) (x 1) (x 2) (I 0) (I 1) (I 2) (by omega) (by omega) (by omega))
  blk_ext [idx n]

/-- At the ideal values the kernel and the reference compute the same array. -/
theorem algebraic : Cert.algebraic_ConvIdeal_ConvReferenceIdeal := by
  pair_intro
  · run_from Cert.ConvIdeal.Gen.run_main m g
  · run_from Cert.ConvReferenceIdeal.Value.run m' g'
    rw [Cert.ConvReferenceIdeal.Read.val_main_v65_eq, (hagree c).1, (hagree c).2.1, (hagree c).2.2]
    exact (final m c).symm

/-- The frame of the kernel. -/
theorem frame_p : Cert.quiescent_Conv := fun m g _ => Cert.Conv.Gen.frame m g
/-- The frame of its idealization. -/
theorem frame_pi : Cert.quiescent_ConvIdeal := fun m g _ => Cert.ConvIdeal.Gen.frame m g
/-- The frame of the reference: the run of its host operations, which use no semaphore. -/
theorem frame_ri : Cert.quiescent_ConvReferenceIdeal := fun m g _ =>
  (θ_run Cert.ConvReferenceIdeal.defs _ _).mono (fun r h => ⟨fun c => (h c).2, sem_eq_zero_of_no_sems (by decide) r.2⟩)
    (Cert.ConvReferenceIdeal.Value.run (F := Ideal) m g)

end Cert.ConvProof

end
-- ==== Proof.ZprojValue.lean ====
module

public import proofs.«01_k».proof.Defs
public import proofs.«01_k».proof.Proof.Gen.Zproj.Frame
public import proofs.«01_k».proof.Proof.Gen.ZprojIdeal.Frame
public import proofs.«01_k».proof.Proof.Gen.ZprojIdeal.Value
public import proofs.«01_k».proof.Proof.Gen.ZprojReferenceIdeal.Run
public import proofs.«01_k».proof.Proof.Gen.ZprojReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ZprojProof

open Cert.ZprojIdeal Cert.ZprojIdeal.Gen

variable (m : (ℓ : Loc nD τ sig) → Buf (Elt Ideal) ℓ)

/-- The reference's result as a function of its two arguments. -/
abbrev REF (a : FVec Ideal S4x8192x2048 .f32) (w : FVec Ideal S2048x17968 .f32) : FVec Ideal S32768x1536 .bf16 :=
  Cert.ZprojReferenceIdeal.Read.val_main_v3 (F := Ideal) a w

/-- The block every window holds at grid point `t`. -/
theorem idx : ∀ t : Fin cfg0.N, win0_0.index t = ![t.val, 0] ∧ win0_1.index t = ![0, 6] ∧ win0_2.index t = ![t.val, 0] :=
  (by decide +kernel : ∀ t : Fin grid0.N, _)

/-- The body's result read at an index: the row times the column. -/
theorem pay_at (a : FVec Ideal S1024x2048 .bf16) (w : FVec Ideal S2048x1536 .bf16) (i : Fin 1024) (j : Fin 1536) :
    k0_pay1 (F := Ideal) a w (ix2 i j) = ∑ k : Fin 2048, a (ix2 i k) * w (ix2 k j) := by
  pointwise [k0_pay1]

/-- The reference's result read at an index: the row times the column of the gate branch. -/
theorem ref_at (a : FVec Ideal S4x8192x2048 .f32) (w : FVec Ideal S2048x17968 .f32) (i : Fin 32768) (j : Fin 1536) :
    REF a w (ix2 i j) = ∑ k : Fin 2048, a (ix3 ⟨i / 8192, by omega⟩ ⟨i % 8192, by omega⟩ k) * w (ix2 k ⟨9216 + j, by omega⟩) := by
  pointwise [REF, Cert.ZprojReferenceIdeal.Read.val_main_v3, Cert.ZprojReferenceIdeal.Read.val_main_v2, Cert.ZprojReferenceIdeal.Read.val_main_v1, Cert.ZprojReferenceIdeal.Read.val_main_v0]

/-- The weights' block at a point, read at an index. -/
theorem w_at (c : Dev nD) (t : Fin cfg0.N) (k : Fin 2048) (j : Fin 1536) :
    X0_1 m c t (ix2 k j) = m ((c : Thread nD τ).loc main_arg1) (ix2 k ⟨9216 + j, by omega⟩) := by
  unfold X0_1 Pipeline.Window.fill
  rw [dif_pos (moved0_1 t _)]
  blk_point [iblk, idx t]

/-- What the body stores at index `(i, j)` of the block of point `t` is the reference at the place of `(i, j)` in the array. -/
theorem point (c : Dev nD) (t : Fin cfg0.N) (i : Fin 1024) (j : Fin 1536) (I : Fin 32768) (J : Fin 1536)
    (hI : (I : ℕ) = t.val * 1024 + i) (hJ : (J : ℕ) = 0 + j) :
    k0_pay1 (F := Ideal) (iblk m c 0 t) (X0_1 m c t) (ix2 i j)
    = REF (m ((c : Thread nD τ).loc main_arg0)) (m ((c : Thread nD τ).loc main_arg1)) (ix2 I J) := by
  rw [ref_at]
  refine (pay_at _ _ i j).trans ?_
  simp only [w_at]
  blk_point [iblk, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0 out0_A_2; frame_out
  obtain_idx I : S32768x1536 := [t.val * 1024 + (y 0 : ℕ), 0 + (y 1 : ℕ)] with hI
  refine (congrArg (k0_pay1 (F := Ideal) (iblk m c 0 t) (X0_1 m c t)) (ValueIdx.eq_ix2 y)).trans
    ((point m c t (y 0) (y 1) (I 0) (I 1) (by omega) (by omega)).trans (congrArg (REF _ _) ?_))
  blk_ext [idx t]

/-- At the ideal values the kernel and the reference compute the same array. -/
theorem algebraic : Cert.algebraic_ZprojIdeal_ZprojReferenceIdeal := by
  pair_intro
  · run_from Cert.ZprojIdeal.Gen.run_main m g
  · run_from Cert.ZprojReferenceIdeal.Value.run m' g'
    exact (final m c).symm

/-- The frame of the kernel. -/
theorem frame_p : Cert.quiescent_Zproj := fun m g _ => Cert.Zproj.Gen.frame m g
/-- The frame of its idealization. -/
theorem frame_pi : Cert.quiescent_ZprojIdeal := fun m g _ => Cert.ZprojIdeal.Gen.frame m g
/-- The frame of the reference: the run of its host operations, which use no semaphore. -/
theorem frame_ri : Cert.quiescent_ZprojReferenceIdeal := fun m g _ =>
  (θ_run Cert.ZprojReferenceIdeal.defs _ _).mono (fun r h => ⟨fun c => (h c).2, sem_eq_zero_of_no_sems (by decide) r.2⟩)
    (Cert.ZprojReferenceIdeal.Value.run (F := Ideal) m g)

end Cert.ZprojProof

end
-- ==== Proof.MqValue.lean ====
module

public import proofs.«01_k».proof.Defs
public import proofs.«01_k».proof.Proof.Gen.Mq.Frame
public import proofs.«01_k».proof.Proof.Gen.MqIdeal.Value
public import proofs.«01_k».proof.Proof.Gen.MqReferenceIdeal.Run
public import proofs.«01_k».proof.Proof.Gen.MqReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MqProof

open Cert.MqIdeal Cert.MqIdeal.Gen

variable (m : (ℓ : Loc nD τ sig) → Buf (Elt Ideal) ℓ)

/-- The reference's result as a function of its two arguments. -/
abbrev REF (a : FVec Ideal S4x8192x2048 .f32) (w : FVec Ideal S2048x17968 .f32) : FVec Ideal S32768x1024 .bf16 :=
  Cert.MqReferenceIdeal.Read.val_main_v3 (F := Ideal) a w

/-- The block every window holds at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The body's result read at an index: the row times the column. -/
theorem pay_at (a : FVec Ideal S1024x2048 .bf16) (w : FVec Ideal S2048x1024 .bf16) (i : Fin 1024) (j : Fin 1024) :
    k0_pay1 (F := Ideal) a w (ix2 i j) = ∑ k : Fin 2048, a (ix2 i k) * w (ix2 k j) := by
  pointwise [k0_pay1]

/-- The reference's result read at an index: the row times the column of the memory queries. -/
theorem ref_at (a : FVec Ideal S4x8192x2048 .f32) (w : FVec Ideal S2048x17968 .f32) (i : Fin 32768) (j : Fin 1024) :
    REF a w (ix2 i j) = ∑ k : Fin 2048, a (ix3 ⟨i / 8192, by omega⟩ ⟨i % 8192, by omega⟩ k) * w (ix2 k ⟨10800 + j, by omega⟩) := by
  pointwise [REF, Cert.MqReferenceIdeal.Read.val_main_v3, Cert.MqReferenceIdeal.Read.val_main_v2, Cert.MqReferenceIdeal.Read.val_main_v1, Cert.MqReferenceIdeal.Read.val_main_v0]

/-- What the body stores at index `(i, j)` of the block of point `t` is the reference at the place of `(i, j)` in the array. -/
theorem point (c : Dev nD) (t : Fin cfg0.N) (i : Fin 1024) (j : Fin 1024) (I : Fin 32768) (J : Fin 1024)
    (hI : (I : ℕ) = t.val * 1024 + i) (hJ : (J : ℕ) = 0 + j) :
    k0_pay1 (F := Ideal) (iblk m c 0 t) (iblk m c 1 t) (ix2 i j)
    = REF (m ((c : Thread nD τ).loc main_arg0)) (m ((c : Thread nD τ).loc main_arg1)) (ix2 I J) := by
  rw [ref_at]
  refine (pay_at _ _ i j).trans ?_
  blk_point [iblk, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain_idx I : S32768x1024 := [t.val * 1024 + (y 0 : ℕ), 0 + (y 1 : ℕ)] with hI
  refine (congrArg (k0_pay1 (F := Ideal) (iblk m c 0 t) (iblk m c 1 t)) (ValueIdx.eq_ix2 y)).trans
    ((point m c t (y 0) (y 1) (I 0) (I 1) (by omega) (by omega)).trans (congrArg (REF _ _) ?_))
  blk_ext [idx t]

/-- At the ideal values the kernel and the reference compute the same array. -/
theorem algebraic : Cert.algebraic_MqIdeal_MqReferenceIdeal := by
  pair_intro
  · run_from Cert.MqIdeal.Gen.run_main m g
  · run_from Cert.MqReferenceIdeal.Value.run m' g'
    exact (final m c).symm

/-- The frame of the kernel. -/
theorem frame_p : Cert.quiescent_Mq := fun m g _ => Cert.Mq.Gen.frame m g
/-- The frame of its idealization. -/
theorem frame_pi : Cert.quiescent_MqIdeal := fun m g _ => Cert.MqIdeal.Gen.frame m g
/-- The frame of the reference: the run of its host operations, which use no semaphore. -/
theorem frame_ri : Cert.quiescent_MqReferenceIdeal := fun m g _ =>
  (θ_run Cert.MqReferenceIdeal.defs _ _).mono (fun r h => ⟨fun c => (h c).2, sem_eq_zero_of_no_sems (by decide) r.2⟩)
    (Cert.MqReferenceIdeal.Value.run (F := Ideal) m g)

end Cert.MqProof

end
-- ==== Proof.KvValue.lean ====
module

public import proofs.«01_k».proof.Defs
public import proofs.«01_k».proof.Proof.Gen.Kv.Frame
public import proofs.«01_k».proof.Proof.Gen.KvIdeal.Value
public import proofs.«01_k».proof.Proof.Gen.KvReferenceIdeal.Run
public import proofs.«01_k».proof.Proof.Gen.KvReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvProof

open Cert.KvIdeal Cert.KvIdeal.Gen

variable (m : (ℓ : Loc nD τ sig) → Buf (Elt Ideal) ℓ)

/-- The reference's result as a function of its two arguments. -/
abbrev REF (a : FVec Ideal S4x256x2048 .f32) (w : FVec Ideal S2048x2048 .f32) : FVec Ideal S1024x2048 .bf16 :=
  Cert.KvReferenceIdeal.Read.val_main_v2 (F := Ideal) a w

/-- The block every window holds at grid point `t`. -/
theorem idx : ∀ t : Fin cfg0.N, win0_0.index t = ![0, 0] ∧ win0_1.index t = ![0, t.val] ∧ win0_2.index t = ![0, t.val] :=
  (by decide +kernel : ∀ t : Fin grid0.N, _)

/-- The body's result read at an index: the row times the column. -/
theorem pay_at (a : FVec Ideal S1024x2048 .bf16) (w : FVec Ideal S2048x1024 .bf16) (i : Fin 1024) (j : Fin 1024) :
    k0_pay1 (F := Ideal) a w (ix2 i j) = ∑ k : Fin 2048, a (ix2 i k) * w (ix2 k j) := by
  pointwise [k0_pay1]

/-- The reference's result read at an index: the row times the column. -/
theorem ref_at (a : FVec Ideal S4x256x2048 .f32) (w : FVec Ideal S2048x2048 .f32) (i : Fin 1024) (j : Fin 2048) :
    REF a w (ix2 i j) = ∑ k : Fin 2048, a (ix3 ⟨i / 256, by omega⟩ ⟨i % 256, by omega⟩ k) * w (ix2 k j) := by
  pointwise [REF, Cert.KvReferenceIdeal.Read.val_main_v2, Cert.KvReferenceIdeal.Read.val_main_v1, Cert.KvReferenceIdeal.Read.val_main_v0]

/-- What the body stores at index `(i, j)` of the block of point `t` is the reference at the place of `(i, j)` in the array. -/
theorem point (c : Dev nD) (t : Fin cfg0.N) (i : Fin 1024) (j : Fin 1024) (I : Fin 1024) (J : Fin 2048)
    (hI : (I : ℕ) = 0 + i) (hJ : (J : ℕ) = t.val * 1024 + j) :
    k0_pay1 (F := Ideal) (iblk m c 0 t) (iblk m c 1 t) (ix2 i j)
    = REF (m ((c : Thread nD τ).loc main_arg0)) (m ((c : Thread nD τ).loc main_arg1)) (ix2 I J) := by
  rw [ref_at]
  refine (pay_at _ _ i j).trans ?_
  blk_point [iblk, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain_idx I : S1024x2048 := [0 + (y 0 : ℕ), t.val * 1024 + (y 1 : ℕ)] with hI
  refine (congrArg (k0_pay1 (F := Ideal) (iblk m c 0 t) (iblk m c 1 t)) (ValueIdx.eq_ix2 y)).trans
    ((point m c t (y 0) (y 1) (I 0) (I 1) (by omega) (by omega)).trans (congrArg (REF _ _) ?_))
  blk_ext [idx t]

/-- At the ideal values the kernel and the reference compute the same array. -/
theorem algebraic : Cert.algebraic_KvIdeal_KvReferenceIdeal := by
  pair_intro
  · run_from Cert.KvIdeal.Gen.run_main m g
  · run_from Cert.KvReferenceIdeal.Value.run m' g'
    exact (final m c).symm

/-- The frame of the kernel. -/
theorem frame_p : Cert.quiescent_Kv := fun m g _ => Cert.Kv.Gen.frame m g
/-- The frame of its idealization. -/
theorem frame_pi : Cert.quiescent_KvIdeal := fun m g _ => Cert.KvIdeal.Gen.frame m g
/-- The frame of the reference: the run of its host operations, which use no semaphore. -/
theorem frame_ri : Cert.quiescent_KvReferenceIdeal := fun m g _ =>
  (θ_run Cert.KvReferenceIdeal.defs _ _).mono (fun r h => ⟨fun c => (h c).2, sem_eq_zero_of_no_sems (by decide) r.2⟩)
    (Cert.KvReferenceIdeal.Value.run (F := Ideal) m g)

end Cert.KvProof

end
-- ==== Proof.PostValue.lean ====
module

public import proofs.«01_k».proof.Defs
public import proofs.«01_k».proof.Proof.Gen.Post.Frame
public import proofs.«01_k».proof.Proof.Gen.PostIdeal.Value
public import proofs.«01_k».proof.Proof.Gen.PostReferenceIdeal.Run
public import proofs.«01_k».proof.Proof.Gen.PostReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostProof

open Cert.PostIdeal Cert.PostIdeal.Gen

variable (m : (ℓ : Loc nD τ sig) → Buf (Elt Ideal) ℓ)

/-- The reference's result as a function of its four arguments. -/
abbrev REF (a b : FVec Ideal S12x32768x128 .f32) (z : FVec Ideal S4x8192x1536 .f32) (g : FVec Ideal S128 .f32) : FVec Ideal S32768x1536 .bf16 :=
  Cert.PostReferenceIdeal.Read.val_main_v20 (F := Ideal) a b z g

/-- The block every window holds at grid point `t`. -/
theorem idx : ∀ t : Fin cfg0.N, win0_0.index t = ![0, t.val, 0] ∧ win0_1.index t = ![0, t.val, 0] ∧ win0_2.index t = ![t.val, 0]
    ∧ win0_3.index t = ![0, 0] ∧ win0_4.index t = ![t.val, 0] :=
  (by decide +kernel : ∀ t : Fin grid0.N, _)

/-- What the body stores for one head, read at an index. -/
theorem pay_at (a b : FVec Ideal S1x512x128 .bf16) (z : FVec Ideal S512x128 .bf16) (g : FVec Ideal S1x128 .f32) (i : Fin 512) (j : Fin 128) :
    k0_pay1 (F := Ideal) a b z g (ix2 i j) = (a (ix3 0 i j) + b (ix3 0 i j)) * Ideal.rsqrt (Ideal.div (∑ k : Fin 128, (a (ix3 0 i k) + b (ix3 0 i k)) * (a (ix3 0 i k) + b (ix3 0 i k)))
      (Ideal.ofBits .f32 1124073472#32) + Ideal.ofBits .f32 897988541#32) * g (ix2 0 j) * (z (ix2 i j) * Ideal.div 1 (1 + Ideal.exp (-z (ix2 i j)))) := by
  pointwise [k0_pay1]
  rfl

/-- The reference's result read at an index. -/
theorem ref_at (a b : FVec Ideal S12x32768x128 .f32) (z : FVec Ideal S4x8192x1536 .f32) (g : FVec Ideal S128 .f32)  (i : Fin 32768) (j : Fin 1536) :
    REF a b z g (ix2 i j) = (a (ix3 ⟨j / 128, by omega⟩ i ⟨j % 128, by omega⟩) + b (ix3 ⟨j / 128, by omega⟩ i ⟨j % 128, by omega⟩)) * Ideal.rsqrt (Ideal.div (∑ k : Fin 128, (a (ix3 ⟨j / 128, by omega⟩ i k) + b (ix3 ⟨j / 128, by omega⟩ i k)) * (a (ix3 ⟨j / 128, by omega⟩ i k) + b (ix3 ⟨j / 128, by omega⟩ i k)))
      (Ideal.ofBits .f32 1124073472#32) + Ideal.ofBits .f32 897988541#32) * g (ix1 ⟨j % 128, by omega⟩) * (z (ix3 ⟨i / 8192, by omega⟩ ⟨i % 8192, by omega⟩ j) * Ideal.div 1 (1 + Ideal.exp (-z (ix3 ⟨i / 8192, by omega⟩ ⟨i % 8192, by omega⟩ j)))) := by
  pointwise [REF, Cert.PostReferenceIdeal.Read.val_main_v20, Cert.PostReferenceIdeal.Read.val_main_v19, Cert.PostReferenceIdeal.Read.val_main_v18, Cert.PostReferenceIdeal.Read.val_main_v17, Cert.PostReferenceIdeal.Read.val_main_call0_v5, Cert.PostReferenceIdeal.Read.val_main_call0_v4, Cert.PostReferenceIdeal.Read.val_main_call0_cst_0, Cert.PostReferenceIdeal.Read.val_main_call0_v3, Cert.PostReferenceIdeal.Read.val_main_call0_v2, Cert.PostReferenceIdeal.Read.val_main_call0_cst, Cert.PostReferenceIdeal.Read.val_main_call0_v1, Cert.PostReferenceIdeal.Read.val_main_call0_v0, Cert.PostReferenceIdeal.Read.val_main_v16, Cert.PostReferenceIdeal.Read.val_main_v15, Cert.PostReferenceIdeal.Read.val_main_v14, Cert.PostReferenceIdeal.Read.val_main_v13, Cert.PostReferenceIdeal.Read.val_main_v12, Cert.PostReferenceIdeal.Read.val_main_v11, Cert.PostReferenceIdeal.Read.val_main_v10, Cert.PostReferenceIdeal.Read.val_main_v9, Cert.PostReferenceIdeal.Read.val_main_v8, Cert.PostReferenceIdeal.Read.val_main_cst_1, Cert.PostReferenceIdeal.Read.val_main_v7, Cert.PostReferenceIdeal.Read.val_main_v6, Cert.PostReferenceIdeal.Read.val_main_cst_0, Cert.PostReferenceIdeal.Read.val_main_v5, Cert.PostReferenceIdeal.Read.val_main_v4, Cert.PostReferenceIdeal.Read.val_main_cst, Cert.PostReferenceIdeal.Read.val_main_v3, Cert.PostReferenceIdeal.Read.val_main_v2, Cert.PostReferenceIdeal.Read.val_main_v1, Cert.PostReferenceIdeal.Read.val_main_v0]

/-- The result array after the run is the reference's result. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun n _ y => ?_
  blk_simp
  rw [after0_4]; frame_out
  obtain_idx I : S32768x1536 := [n.val * 512 + (y 0 : ℕ), (y 1 : ℕ)] with hI
  refine Eq.trans (b := REF (m ((c : Thread nD τ).loc main_arg0)) (m ((c : Thread nD τ).loc main_arg1)) (m ((c : Thread nD τ).loc main_arg2)) (m ((c : Thread nD τ).loc main_arg3)) I) ?_ (congrArg (REF _ _ _ _) ?_)
  · refine Eq.trans ?_ ((congrArg (REF (m ((c : Thread nD τ).loc main_arg0)) (m ((c : Thread nD τ).loc main_arg1)) (m ((c : Thread nD τ).loc main_arg2)) (m ((c : Thread nD τ).loc main_arg3))) (ValueIdx.eq_ix2 I)).trans (ref_at _ _ _ _ (I 0) (I 1))).symm
    canon_tiles x h
    · refine (show _ = k0_pay1 (F := Ideal) (View.ld (iblk m c 0 n) r0_23) (View.ld (iblk m c 1 n) r0_23) (View.ld (iblk m c 2 n) r0_24) (iblk m c 3 n) x from rfl).trans ?_
      refine (congrArg _ (ValueIdx.eq_ix2 x)).trans ((pay_at _ _ _ _ (x 0) (x 1)).trans ?_)
      pointwise [r0_23, r0_24]
      blk_point [iblk, idx n]
    · refine (show _ = k0_pay1 (F := Ideal) (View.ld (iblk m c 0 n) r0_21) (View.ld (iblk m c 1 n) r0_21) (View.ld (iblk m c 2 n) r0_22) (iblk m c 3 n) x from rfl).trans ?_
      refine (congrArg _ (ValueIdx.eq_ix2 x)).trans ((pay_at _ _ _ _ (x 0) (x 1)).trans ?_)
      pointwise [r0_21, r0_22]
      blk_point [iblk, idx n]
    · refine (show _ = k0_pay1 (F := Ideal) (View.ld (iblk m c 0 n) r0_19) (View.ld (iblk m c 1 n) r0_19) (View.ld (iblk m c 2 n) r0_20) (iblk m c 3 n) x from rfl).trans ?_
      refine (congrArg _ (ValueIdx.eq_ix2 x)).trans ((pay_at _ _ _ _ (x 0) (x 1)).trans ?_)
      pointwise [r0_19, r0_20]
      blk_point [iblk, idx n]
    · refine (show _ = k0_pay1 (F := Ideal) (View.ld (iblk m c 0 n) r0_17) (View.ld (iblk m c 1 n) r0_17) (View.ld (iblk m c 2 n) r0_18) (iblk m c 3 n) x from rfl).trans ?_
      refine (congrArg _ (ValueIdx.eq_ix2 x)).trans ((pay_at _ _ _ _ (x 0) (x 1)).trans ?_)
      pointwise [r0_17, r0_18]
      blk_point [iblk, idx n]
    · refine (show _ = k0_pay1 (F := Ideal) (View.ld (iblk m c 0 n) r0_15) (View.ld (iblk m c 1 n) r0_15) (View.ld (iblk m c 2 n) r0_16) (iblk m c 3 n) x from rfl).trans ?_
      refine (congrArg _ (ValueIdx.eq_ix2 x)).trans ((pay_at _ _ _ _ (x 0) (x 1)).trans ?_)
      pointwise [r0_15, r0_16]
      blk_point [iblk, idx n]
    · refine (show _ = k0_pay1 (F := Ideal) (View.ld (iblk m c 0 n) r0_13) (View.ld (iblk m c 1 n) r0_13) (View.ld (iblk m c 2 n) r0_14) (iblk m c 3 n) x from rfl).trans ?_
      refine (congrArg _ (ValueIdx.eq_ix2 x)).trans ((pay_at _ _ _ _ (x 0) (x 1)).trans ?_)
      pointwise [r0_13, r0_14]
      blk_point [iblk, idx n]
    · refine (show _ = k0_pay1 (F := Ideal) (View.ld (iblk m c 0 n) r0_11) (View.ld (iblk m c 1 n) r0_11) (View.ld (iblk m c 2 n) r0_12) (iblk m c 3 n) x from rfl).trans ?_
      refine (congrArg _ (ValueIdx.eq_ix2 x)).trans ((pay_at _ _ _ _ (x 0) (x 1)).trans ?_)
      pointwise [r0_11, r0_12]
      blk_point [iblk, idx n]
    · refine (show _ = k0_pay1 (F := Ideal) (View.ld (iblk m c 0 n) r0_9) (View.ld (iblk m c 1 n) r0_9) (View.ld (iblk m c 2 n) r0_10) (iblk m c 3 n) x from rfl).trans ?_
      refine (congrArg _ (ValueIdx.eq_ix2 x)).trans ((pay_at _ _ _ _ (x 0) (x 1)).trans ?_)
      pointwise [r0_9, r0_10]
      blk_point [iblk, idx n]
    · refine (show _ = k0_pay1 (F := Ideal) (View.ld (iblk m c 0 n) r0_7) (View.ld (iblk m c 1 n) r0_7) (View.ld (iblk m c 2 n) r0_8) (iblk m c 3 n) x from rfl).trans ?_
      refine (congrArg _ (ValueIdx.eq_ix2 x)).trans ((pay_at _ _ _ _ (x 0) (x 1)).trans ?_)
      pointwise [r0_7, r0_8]
      blk_point [iblk, idx n]
    · refine (show _ = k0_pay1 (F := Ideal) (View.ld (iblk m c 0 n) r0_5) (View.ld (iblk m c 1 n) r0_5) (View.ld (iblk m c 2 n) r0_6) (iblk m c 3 n) x from rfl).trans ?_
      refine (congrArg _ (ValueIdx.eq_ix2 x)).trans ((pay_at _ _ _ _ (x 0) (x 1)).trans ?_)
      pointwise [r0_5, r0_6]
      blk_point [iblk, idx n]
    · refine (show _ = k0_pay1 (F := Ideal) (View.ld (iblk m c 0 n) r0_3) (View.ld (iblk m c 1 n) r0_3) (View.ld (iblk m c 2 n) r0_4) (iblk m c 3 n) x from rfl).trans ?_
      refine (congrArg _ (ValueIdx.eq_ix2 x)).trans ((pay_at _ _ _ _ (x 0) (x 1)).trans ?_)
      pointwise [r0_3, r0_4]
      blk_point [iblk, idx n]
    · refine (show _ = k0_pay1 (F := Ideal) (View.ld (iblk m c 0 n) r0_0) (View.ld (iblk m c 1 n) r0_0) (View.ld (iblk m c 2 n) r0_1) (iblk m c 3 n) x from rfl).trans ?_
      refine (congrArg _ (ValueIdx.eq_ix2 x)).trans ((pay_at _ _ _ _ (x 0) (x 1)).trans ?_)
      pointwise [r0_0, r0_1]
      blk_point [iblk, idx n]
  blk_ext [idx n]

/-- At the ideal values the kernel and the reference compute the same array. -/
theorem algebraic : Cert.algebraic_PostIdeal_PostReferenceIdeal := by
  pair_intro
  · run_from Cert.PostIdeal.Gen.run_main m g
  · run_from Cert.PostReferenceIdeal.Value.run m' g'
    exact (final m c).symm

/-- The frame of the kernel. -/
theorem frame_p : Cert.quiescent_Post := fun m g _ => Cert.Post.Gen.frame m g
/-- The frame of its idealization. -/
theorem frame_pi : Cert.quiescent_PostIdeal := fun m g _ => Cert.PostIdeal.Gen.frame m g
/-- The frame of the reference: the run of its host operations, which use no semaphore. -/
theorem frame_ri : Cert.quiescent_PostReferenceIdeal := fun m g _ =>
  (θ_run Cert.PostReferenceIdeal.defs _ _).mono (fun r h => ⟨fun c => (h c).2, sem_eq_zero_of_no_sems (by decide) r.2⟩)
    (Cert.PostReferenceIdeal.Value.run (F := Ideal) m g)

end Cert.PostProof

end
-- ==== Proof.lean ====
/-
  The claims about the calls of the layer, one after the other: of every call the frame, the frame of its ideal reading and of
  its reference's, and that at the ideal values the call and the reference compute the same array.
-/
module

public import proofs.«01_k».proof.Defs
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemReferenceIdeal.Run
public import proofs.«01_k».proof.Proof.Gen.MemReferenceIdeal.Read
public import proofs.«01_k».proof.Proof.MemAttnValue
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.GatesValue
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.MergeValue
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.OutValue
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import proofs.«01_k».proof.Proof.Gen.NormReferenceIdeal.Read
public import proofs.«01_k».proof.Proof.NormValue
public import proofs.«01_k».proof.Proof.Gen.Rope.Frame
public import proofs.«01_k».proof.Proof.Gen.RopeIdeal.Frame
public import proofs.«01_k».proof.Proof.Gen.RopeIdeal.Value
public import proofs.«01_k».proof.Proof.Gen.RopeReferenceIdeal.Run
public import proofs.«01_k».proof.Proof.Gen.RopeReferenceIdeal.Read
public import proofs.«01_k».proof.Proof.RopeValue
public import proofs.«01_k».proof.Proof.Gen.Conv.Frame
public import proofs.«01_k».proof.Proof.Gen.ConvIdeal.Frame
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.ConvValue
public import proofs.«01_k».proof.Proof.Gen.Zproj.Frame
public import proofs.«01_k».proof.Proof.Gen.ZprojIdeal.Frame
public import proofs.«01_k».proof.Proof.Gen.ZprojIdeal.Value
public import proofs.«01_k».proof.Proof.Gen.ZprojReferenceIdeal.Run
public import proofs.«01_k».proof.Proof.Gen.ZprojReferenceIdeal.Read
public import proofs.«01_k».proof.Proof.ZprojValue
public import proofs.«01_k».proof.Proof.Gen.Mq.Frame
public import proofs.«01_k».proof.Proof.Gen.MqIdeal.Frame
public import proofs.«01_k».proof.Proof.Gen.MqIdeal.Value
public import proofs.«01_k».proof.Proof.Gen.MqReferenceIdeal.Run
public import proofs.«01_k».proof.Proof.Gen.MqReferenceIdeal.Read
public import proofs.«01_k».proof.Proof.MqValue
public import proofs.«01_k».proof.Proof.Gen.Kv.Frame
public import proofs.«01_k».proof.Proof.Gen.KvIdeal.Frame
public import proofs.«01_k».proof.Proof.Gen.KvIdeal.Value
public import proofs.«01_k».proof.Proof.Gen.KvReferenceIdeal.Run
public import proofs.«01_k».proof.Proof.Gen.KvReferenceIdeal.Read
public import proofs.«01_k».proof.Proof.KvValue
public import proofs.«01_k».proof.Proof.Gen.Post.Frame
public import proofs.«01_k».proof.Proof.Gen.PostIdeal.Frame
public import proofs.«01_k».proof.Proof.Gen.PostIdeal.Value
public import proofs.«01_k».proof.Proof.Gen.PostReferenceIdeal.Run
public import proofs.«01_k».proof.Proof.Gen.PostReferenceIdeal.Read
public import proofs.«01_k».proof.Proof.PostValue
public import Idealize.ShloMosaic.Adequacy
public import Idealize.ShloMosaic.Init

@[expose] public section

noncomputable section

namespace Cert.Proof

open Idealize.ShloMosaic Idealize.SL.Sem

/-- Every claim of this problem. -/
theorem claim : Cert.Claim := ⟨
  Cert.MemAttn.Gen.facts, Cert.MemAttnIdeal.Gen.facts, Cert.MemReferenceIdeal.Gen.facts,
  Cert.Gates.Gen.facts, Cert.GatesIdeal.Gen.facts, Cert.GatesReferenceIdeal.Gen.facts,
  Cert.Merge.Gen.facts, Cert.MergeIdeal.Gen.facts, Cert.MergeReferenceIdeal.Gen.facts,
  Cert.Out.Gen.facts, Cert.OutIdeal.Gen.facts, Cert.OutReferenceIdeal.Gen.facts,
  Cert.Norm.Gen.facts, Cert.NormIdeal.Gen.facts, Cert.NormReferenceIdeal.Gen.facts,
  Cert.Rope.Gen.facts, Cert.RopeIdeal.Gen.facts, Cert.RopeReferenceIdeal.Gen.facts,
  Cert.Conv.Gen.facts, Cert.ConvIdeal.Gen.facts, Cert.ConvReferenceIdeal.Gen.facts,
  Cert.Zproj.Gen.facts, Cert.ZprojIdeal.Gen.facts, Cert.ZprojReferenceIdeal.Gen.facts,
  Cert.Mq.Gen.facts, Cert.MqIdeal.Gen.facts, Cert.MqReferenceIdeal.Gen.facts,
  Cert.Kv.Gen.facts, Cert.KvIdeal.Gen.facts, Cert.KvReferenceIdeal.Gen.facts,
  Cert.Post.Gen.facts, Cert.PostIdeal.Gen.facts, Cert.PostReferenceIdeal.Gen.facts,
  Cert.MemAttnProof.frame_p, Cert.MemAttnProof.frame_pi, Cert.MemAttnProof.frame_ri,
  Cert.GatesProof.frame_p, Cert.GatesProof.frame_pi, Cert.GatesProof.frame_ri,
  Cert.MergeProof.frame_p, Cert.MergeProof.frame_pi, Cert.MergeProof.frame_ri,
  Cert.OutProof.frame_p, Cert.OutProof.frame_pi, Cert.OutProof.frame_ri,
  Cert.NormProof.frame_p, Cert.NormProof.frame_pi, Cert.NormProof.frame_ri,
  Cert.RopeProof.frame_p, Cert.RopeProof.frame_pi, Cert.RopeProof.frame_ri,
  Cert.ConvProof.frame_p, Cert.ConvProof.frame_pi, Cert.ConvProof.frame_ri,
  Cert.ZprojProof.frame_p, Cert.ZprojProof.frame_pi, Cert.ZprojProof.frame_ri,
  Cert.MqProof.frame_p, Cert.MqProof.frame_pi, Cert.MqProof.frame_ri,
  Cert.KvProof.frame_p, Cert.KvProof.frame_pi, Cert.KvProof.frame_ri,
  Cert.PostProof.frame_p, Cert.PostProof.frame_pi, Cert.PostProof.frame_ri,
  trivial, Cert.MemAttnProof.algebraic,
  trivial, Cert.GatesProof.algebraic,
  trivial, Cert.MergeProof.algebraic,
  trivial, Cert.OutProof.algebraic,
  trivial, Cert.NormProof.algebraic,
  trivial, Cert.RopeProof.algebraic,
  trivial, Cert.ConvProof.algebraic,
  trivial, Cert.ZprojProof.algebraic,
  trivial, Cert.MqProof.algebraic,
  trivial, Cert.KvProof.algebraic,
  trivial, Cert.PostProof.algebraic⟩

end Cert.Proof

end
